-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x12x12x3x3x16x16x4x4 : Shape := ⟨9, ![4, 12, 12, 3, 3, 16, 16, 4, 4]⟩
abbrev S4x12x12x3x3x16x1x1x1 : Shape := ⟨9, ![4, 12, 12, 3, 3, 16, 1, 1, 1]⟩
abbrev S1x1x1x1x1x1x16x1x1 : Shape := ⟨9, ![1, 1, 1, 1, 1, 1, 16, 1, 1]⟩
abbrev S_ : Shape := ⟨0, ![]⟩

class Facts : Prop where
  bcast_S_S4x12x12x3x3x16x16x4x4 : S_.BroadcastsInDim S4x12x12x3x3x16x16x4x4 (![] : Fin 0 → Fin S4x12x12x3x3x16x16x4x4.rank)
  bcast_S_S4x12x12x3x3x16x1x1x1 : S_.BroadcastsInDim S4x12x12x3x3x16x1x1x1 (![] : Fin 0 → Fin S4x12x12x3x3x16x1x1x1.rank)
  bcast_S4x12x12x3x3x16x1x1x1_S4x12x12x3x3x16x16x4x4_0_1_2_3_4_5_6_7_8 : S4x12x12x3x3x16x1x1x1.BroadcastsInDim S4x12x12x3x3x16x16x4x4 (![0, 1, 2, 3, 4, 5, 6, 7, 8] : Fin 9 → Fin S4x12x12x3x3x16x16x4x4.rank)

variable [Facts]

def fn {F : FTy → Type} [FloatOps F] (main_arg0 : FVec F S4x12x12x3x3x16x16x4x4 .f32) (main_arg1 : FVec F S4x12x12x3x3x16x1x1x1 .f32) (main_arg2 : FVec F S1x1x1x1x1x1x16x1x1 .f32) (main_arg3 : FVec F S1x1x1x1x1x1x16x1x1 .f32) : IVec S4x12x12x3x3x16x16x4x4 1 :=
  let main_v0 : FVec F S4x12x12x3x3x16x16x4x4 .f32 := Host.absf main_arg0
  let main_cst : FVec F S_ .f32 := constant S_ .f32 0x7F800000#32
  let main_v1 : FVec F S4x12x12x3x3x16x16x4x4 .f32 := broadcastInDim S4x12x12x3x3x16x16x4x4 ![] bcast_S_S4x12x12x3x3x16x16x4x4 main_cst
  let main_v2 : IVec S4x12x12x3x3x16x16x4x4 1 := cmpf .olt main_v0 main_v1
  let main_cst_0 : FVec F S_ .f32 := constant S_ .f32 0x00000000#32
  let main_v3 : FVec F S4x12x12x3x3x16x1x1x1 .f32 := broadcastInDim S4x12x12x3x3x16x1x1x1 ![] bcast_S_S4x12x12x3x3x16x1x1x1 main_cst_0
  let main_v4 : IVec S4x12x12x3x3x16x1x1x1 1 := cmpf .oge main_arg1 main_v3
  let main_v5 : IVec S4x12x12x3x3x16x16x4x4 1 := broadcastInDim S4x12x12x3x3x16x16x4x4 ![0, 1, 2, 3, 4, 5, 6, 7, 8] bcast_S4x12x12x3x3x16x1x1x1_S4x12x12x3x3x16x16x4x4_0_1_2_3_4_5_6_7_8 main_v4
  let main_v6 : IVec S4x12x12x3x3x16x16x4x4 1 := andi main_v2 main_v5
  main_v6
-- ==== Kernel.lean ====
abbrev S4x12x12x3x3x16x16x4x4 : Shape := ⟨9, ![4, 12, 12, 3, 3, 16, 16, 4, 4]⟩
abbrev S4x12x12x3x3x16x1x1x1 : Shape := ⟨9, ![4, 12, 12, 3, 3, 16, 1, 1, 1]⟩
abbrev S1x1x1x1x1x1x16x1x1 : Shape := ⟨9, ![1, 1, 1, 1, 1, 1, 16, 1, 1]⟩
abbrev S4x12x12x3x3x16x4x4x16 : Shape := ⟨9, ![4, 12, 12, 3, 3, 16, 4, 4, 16]⟩
abbrev S576x144x16x16 : Shape := ⟨4, ![576, 144, 16, 16]⟩
abbrev S576x144 : Shape := ⟨2, ![576, 144]⟩
abbrev S1x16 : Shape := ⟨2, ![1, 16]⟩
abbrev S1x16x1 : Shape := ⟨3, ![1, 16, 1]⟩
abbrev S1x16x16 : Shape := ⟨3, ![1, 16, 16]⟩
abbrev S1x256 : Shape := ⟨2, ![1, 256]⟩
abbrev S256x16 : Shape := ⟨2, ![256, 16]⟩
abbrev S_ : Shape := ⟨0, ![]⟩
abbrev S16x256 : Shape := ⟨2, ![16, 256]⟩
abbrev S144x16 : Shape := ⟨2, ![144, 16]⟩
abbrev S16x144 : Shape := ⟨2, ![16, 144]⟩
abbrev S576x144x256 : Shape := ⟨3, ![576, 144, 256]⟩
abbrev S576x256 : Shape := ⟨2, ![576, 256]⟩
abbrev S576x16 : Shape := ⟨2, ![576, 16]⟩
abbrev S1x1 : Shape := ⟨2, ![1, 1]⟩
abbrev S8x144x16x16 : Shape := ⟨4, ![8, 144, 16, 16]⟩
abbrev S8x144 : Shape := ⟨2, ![8, 144]⟩
abbrev S8x144x256 : Shape := ⟨3, ![8, 144, 256]⟩
abbrev S8x256 : Shape := ⟨2, ![8, 256]⟩
abbrev S8x16 : Shape := ⟨2, ![8, 16]⟩
abbrev S8x144x1x16 : Shape := ⟨4, ![8, 144, 1, 16]⟩
abbrev S8x144x16 : Shape := ⟨3, ![8, 144, 16]⟩
abbrev S1152x16 : Shape := ⟨2, ![1152, 16]⟩
abbrev S1152x256 : Shape := ⟨2, ![1152, 256]⟩
abbrev S8x144x1 : Shape := ⟨3, ![8, 144, 1]⟩
abbrev S8x1 : Shape := ⟨2, ![8, 1]⟩
abbrev S8x1x256 : Shape := ⟨3, ![8, 1, 256]⟩
abbrev S8x1x16 : Shape := ⟨3, ![8, 1, 16]⟩
abbrev S1x8x144x16 : Shape := ⟨4, ![1, 8, 144, 16]⟩
abbrev S1 : Shape := ⟨1, ![1]⟩
abbrev S1x1x1x1 : Shape := ⟨4, ![1, 1, 1, 1]⟩
abbrev S16x144x256 : Shape := ⟨3, ![16, 144, 256]⟩
abbrev S16x16 : Shape := ⟨2, ![16, 16]⟩
abbrev S16x144x1 : Shape := ⟨3, ![16, 144, 1]⟩
abbrev S16x1x256 : Shape := ⟨3, ![16, 1, 256]⟩
abbrev S2304x256 : Shape := ⟨2, ![2304, 256]⟩
abbrev S2304x16 : Shape := ⟨2, ![2304, 16]⟩
abbrev S16x144x16 : Shape := ⟨3, ![16, 144, 16]⟩
abbrev S16x1x16 : Shape := ⟨3, ![16, 1, 16]⟩
abbrev S4x12x12x16x4x4 : Shape := ⟨6, ![4, 12, 12, 16, 4, 4]⟩
abbrev S4x12x12x16x1x1 : Shape := ⟨6, ![4, 12, 12, 16, 1, 1]⟩

abbrev nBuf : Space → Nat
  | .hbm => 71
  | .vmem => 37
  | .smem => 0
  | _ => 0

abbrev bufTy : (tb : Table) → Fin (tcTables nBuf tb) → BufTy
  | .hbm, ⟨0, _⟩ => ⟨S4x12x12x3x3x16x16x4x4, .f32⟩
  | .hbm, ⟨1, _⟩ => ⟨S4x12x12x3x3x16x1x1x1, .f32⟩
  | .hbm, ⟨2, _⟩ => ⟨S1x1x1x1x1x1x16x1x1, .f32⟩
  | .hbm, ⟨3, _⟩ => ⟨S1x1x1x1x1x1x16x1x1, .f32⟩
  | .hbm, ⟨4, _⟩ => ⟨S4x12x12x3x3x16x4x4x16, .f32⟩
  | .hbm, ⟨5, _⟩ => ⟨S576x144x16x16, .f32⟩
  | .hbm, ⟨6, _⟩ => ⟨S576x144, .f32⟩
  | .hbm, ⟨7, _⟩ => ⟨S1x16, .f32⟩
  | .hbm, ⟨8, _⟩ => ⟨S1x16, .f32⟩
  | .hbm, ⟨9, _⟩ => ⟨S1x16x1, .f32⟩
  | .hbm, ⟨10, _⟩ => ⟨S1x16x16, .f32⟩
  | .hbm, ⟨11, _⟩ => ⟨S1x256, .f32⟩
  | .hbm, ⟨12, _⟩ => ⟨S256x16, .i32⟩
  | .hbm, ⟨13, _⟩ => ⟨S256x16, .i32⟩
  | .hbm, ⟨14, _⟩ => ⟨S_, .i32⟩
  | .hbm, ⟨15, _⟩ => ⟨S_, .i32⟩
  | .hbm, ⟨16, _⟩ => ⟨S256x16, .i32⟩
  | .hbm, ⟨17, _⟩ => ⟨S256x16, .i32⟩
  | .hbm, ⟨18, _⟩ => ⟨S256x16, .i32⟩
  | .hbm, ⟨19, _⟩ => ⟨S_, .i32⟩
  | .hbm, ⟨20, _⟩ => ⟨S256x16, .i32⟩
  | .hbm, ⟨21, _⟩ => ⟨S256x16, .i1⟩
  | .hbm, ⟨22, _⟩ => ⟨S256x16, .i32⟩
  | .hbm, ⟨23, _⟩ => ⟨S256x16, .i32⟩
  | .hbm, ⟨24, _⟩ => ⟨S_, .i32⟩
  | .hbm, ⟨25, _⟩ => ⟨S256x16, .i32⟩
  | .hbm, ⟨26, _⟩ => ⟨S256x16, .i1⟩
  | .hbm, ⟨27, _⟩ => ⟨S256x16, .i1⟩
  | .hbm, ⟨28, _⟩ => ⟨S_, .i32⟩
  | .hbm, ⟨29, _⟩ => ⟨S256x16, .i32⟩
  | .hbm, ⟨30, _⟩ => ⟨S256x16, .i32⟩
  | .hbm, ⟨31, _⟩ => ⟨S256x16, .i32⟩
  | .hbm, ⟨32, _⟩ => ⟨S256x16, .i1⟩
  | .hbm, ⟨33, _⟩ => ⟨S256x16, .f32⟩
  | .hbm, ⟨34, _⟩ => ⟨S16x256, .f32⟩
  | .hbm, ⟨35, _⟩ => ⟨S144x16, .i32⟩
  | .hbm, ⟨36, _⟩ => ⟨S144x16, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S144x16, .i32⟩
  | .hbm, ⟨44, _⟩ => ⟨S144x16, .i32⟩
  | .hbm, ⟨45, _⟩ => ⟨S_, .i32⟩
  | .hbm, ⟨46, _⟩ => ⟨S144x16, .i32⟩
  | .hbm, ⟨47, _⟩ => ⟨S144x16, .i1⟩
  | .hbm, ⟨48, _⟩ => ⟨S_, .i32⟩
  | .hbm, ⟨49, _⟩ => ⟨S144x16, .i32⟩
  | .hbm, ⟨50, _⟩ => ⟨S144x16, .i1⟩
  | .hbm, ⟨51, _⟩ => ⟨S_, .i32⟩
  | .hbm, ⟨52, _⟩ => ⟨S_, .i1⟩
  | .hbm, ⟨53, _⟩ => ⟨S144x16, .i1⟩
  | .hbm, ⟨54, _⟩ => ⟨S144x16, .i1⟩
  | .hbm, ⟨55, _⟩ => ⟨S144x16, .i1⟩
  | .hbm, ⟨56, _⟩ => ⟨S144x16, .i32⟩
  | .hbm, ⟨57, _⟩ => ⟨S144x16, .i32⟩
  | .hbm, ⟨58, _⟩ => ⟨S144x16, .i32⟩
  | .hbm, ⟨59, _⟩ => ⟨S144x16, .i1⟩
  | .hbm, ⟨60, _⟩ => ⟨S144x16, .f32⟩
  | .hbm, ⟨61, _⟩ => ⟨S16x144, .f32⟩
  | .hbm, ⟨62, _⟩ => ⟨S576x144x256, .f32⟩
  | .hbm, ⟨63, _⟩ => ⟨S576x256, .f32⟩
  | .hbm, ⟨64, _⟩ => ⟨S576x256, .f32⟩
  | .hbm, ⟨65, _⟩ => ⟨S576x16, .f32⟩
  | .hbm, ⟨66, _⟩ => ⟨S1x1, .f32⟩
  | .hbm, ⟨67, _⟩ => ⟨S576x256, .f32⟩
  | .hbm, ⟨68, _⟩ => ⟨S576x16, .f32⟩
  | .hbm, ⟨69, _⟩ => ⟨S4x12x12x16x4x4, .f32⟩
  | .hbm, ⟨70, _⟩ => ⟨S4x12x12x16x1x1, .f32⟩
  | .local _ .vmem, ⟨0, _⟩ => ⟨S8x144x16x16, .f32⟩
  | .local _ .vmem, ⟨1, _⟩ => ⟨S8x144x16x16, .f32⟩
  | .local _ .vmem, ⟨2, _⟩ => ⟨S8x144, .f32⟩
  | .local _ .vmem, ⟨3, _⟩ => ⟨S8x144, .f32⟩
  | .local _ .vmem, ⟨4, _⟩ => ⟨S1x256, .f32⟩
  | .local _ .vmem, ⟨5, _⟩ => ⟨S1x16, .f32⟩
  | .local _ .vmem, ⟨6, _⟩ => ⟨S256x16, .f32⟩
  | .local _ .vmem, ⟨7, _⟩ => ⟨S8x144x256, .f32⟩
  | .local _ .vmem, ⟨8, _⟩ => ⟨S8x144x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x16, .f32⟩
  | .local _ .vmem, ⟨14, _⟩ => ⟨S8x16, .f32⟩
  | .local _ .vmem, ⟨15, _⟩ => ⟨S1x1, .f32⟩
  | .local _ .vmem, ⟨16, _⟩ => ⟨S16x144x256, .f32⟩
  | .local _ .vmem, ⟨17, _⟩ => ⟨S16x144x256, .f32⟩
  | .local _ .vmem, ⟨18, _⟩ => ⟨S16x144, .f32⟩
  | .local _ .vmem, ⟨19, _⟩ => ⟨S16x144, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S16x16, .f32⟩
  | .local _ .vmem, ⟨25, _⟩ => ⟨S16x16, .f32⟩
  | .local _ .vmem, ⟨26, _⟩ => ⟨S1x1, .f32⟩
  | .local _ .vmem, ⟨27, _⟩ => ⟨S1x256, .f32⟩
  | .local _ .vmem, ⟨28, _⟩ => ⟨S1x16, .f32⟩
  | .local _ .vmem, ⟨29, _⟩ => ⟨S256x16, .f32⟩
  | .local _ .vmem, ⟨30, _⟩ => ⟨S16x256, .f32⟩
  | .local _ .vmem, ⟨31, _⟩ => ⟨S144x16, .f32⟩
  | .local _ .vmem, ⟨32, _⟩ => ⟨S16x144, .f32⟩
  | .local _ .vmem, ⟨33, _⟩ => ⟨S16x256, .f32⟩
  | .local _ .vmem, ⟨34, _⟩ => ⟨S16x256, .f32⟩
  | .local _ .vmem, ⟨35, _⟩ => ⟨S16x16, .f32⟩
  | .local _ .vmem, ⟨36, _⟩ => ⟨S16x16, .f32⟩
  | _, _ => ⟨S4x12x12x3x3x16x16x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20_0 : Ref sig .tc := ⟨.hbm, 62, rfl⟩
abbrev main_v20_1 : Ref sig .tc := ⟨.hbm, 63, rfl⟩
abbrev main_v20_2 : Ref sig .tc := ⟨.hbm, 64, rfl⟩
abbrev main_v20_3 : Ref sig .tc := ⟨.hbm, 65, rfl⟩
abbrev main_v20_4 : Ref sig .tc := ⟨.hbm, 66, rfl⟩
abbrev main_v21_0 : Ref sig .tc := ⟨.hbm, 67, rfl⟩
abbrev main_v21_1 : Ref sig .tc := ⟨.hbm, 68, rfl⟩
abbrev main_v22 : Ref sig .tc := ⟨.hbm, 69, rfl⟩
abbrev main_v23 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg12_1 : Ref sig .tc := ⟨.vmem, 34, rfl⟩
abbrev cc1_stg13_0 : Ref sig .tc := ⟨.vmem, 35, rfl⟩
abbrev cc1_stg13_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem12_1 : DmaSem sig := 34
abbrev cc1_sem13_0 : DmaSem sig := 35
abbrev cc1_sem13_1 : DmaSem sig := 36

abbrev nD : Nat := 1
abbrev τ : Topo := Topo.v7x

variable {F : FTy → Type} [FloatOps F]

abbrev grid0 : Pipeline.Grid := ⟨1, ![72], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x144x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x144x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![36], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x144x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S144x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S16x144 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S16x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S16x16 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4x12x12x3x3x16x16x4x4 : Shape := ⟨9, ![4, 12, 12, 3, 3, 16, 16, 4, 4]⟩
abbrev S4x12x12x3x3x16x1x1x1 : Shape := ⟨9, ![4, 12, 12, 3, 3, 16, 1, 1, 1]⟩
abbrev S1x1x1x1x1x1x16x1x1 : Shape := ⟨9, ![1, 1, 1, 1, 1, 1, 16, 1, 1]⟩
abbrev S_ : Shape := ⟨0, ![]⟩
abbrev S4x12x12x1x1x1x16x4x4 : Shape := ⟨9, ![4, 12, 12, 1, 1, 1, 16, 4, 4]⟩
abbrev S4x12x12x3x3x16x16x1x1 : Shape := ⟨9, ![4, 12, 12, 3, 3, 16, 16, 1, 1]⟩
abbrev S4x12x12x3x3x16x1x1 : Shape := ⟨8, ![4, 12, 12, 3, 3, 16, 1, 1]⟩
abbrev S4x12x12x16x1x1 : Shape := ⟨6, ![4, 12, 12, 16, 1, 1]⟩
abbrev S4x12x12x1x1x1x16x1x1 : Shape := ⟨9, ![4, 12, 12, 1, 1, 1, 16, 1, 1]⟩
abbrev S4x12x12x16x4x4 : Shape := ⟨6, ![4, 12, 12, 16, 4, 4]⟩
abbrev S4x12x12x1x1x1x16 : Shape := ⟨7, ![4, 12, 12, 1, 1, 1, 16]⟩
abbrev S4x12x12x3x3x16x16 : Shape := ⟨7, ![4, 12, 12, 3, 3, 16, 16]⟩
abbrev S4x12x12x1x1x16x1x1x1 : Shape := ⟨9, ![4, 12, 12, 1, 1, 16, 1, 1, 1]⟩

abbrev nBuf : Space → Nat
  | .hbm => 194
  | .vmem => 0
  | .smem => 0
  | _ => 0

abbrev hbmTy0_0 (i : Nat) : BufTy := match i % 128 with
  | 0 => ⟨S4x12x12x3x3x16x16x4x4, .f32⟩
  | 1 => ⟨S4x12x12x3x3x16x1x1x1, .f32⟩
  | 2 => ⟨S1x1x1x1x1x1x16x1x1, .f32⟩
  | 3 => ⟨S1x1x1x1x1x1x16x1x1, .f32⟩
  | 4 => ⟨S_, .f32⟩
  | 5 => ⟨S4x12x12x1x1x1x16x4x4, .f32⟩
  | 6 => ⟨S_, .f32⟩
  | 7 => ⟨S4x12x12x3x3x16x16x1x1, .f32⟩
  | 8 => ⟨S_, .f32⟩
  | 9 => ⟨S4x12x12x3x3x16x1x1, .f32⟩
  | 10 => ⟨S_, .f32⟩
  | 11 => ⟨S4x12x12x3x3x16x1x1, .f32⟩
  | 12 => ⟨S4x12x12x3x3x16x1x1, .f32⟩
  | 13 => ⟨S4x12x12x3x3x16x1x1x1, .f32⟩
  | 14 => ⟨S4x12x12x3x3x16x16x1x1, .f32⟩
  | 15 => ⟨S4x12x12x3x3x16x16x1x1, .f32⟩
  | 16 => ⟨S4x12x12x3x3x16x16x1x1, .f32⟩
  | 17 => ⟨S_, .f32⟩
  | 18 => ⟨S4x12x12x3x3x16x1x1, .f32⟩
  | 19 => ⟨S4x12x12x3x3x16x1x1x1, .f32⟩
  | 20 => ⟨S4x12x12x3x3x16x16x1x1, .f32⟩
  | 21 => ⟨S4x12x12x3x3x16x16x1x1, .f32⟩
  | 22 => ⟨S4x12x12x3x3x16x16x1x1, .f32⟩
  | 23 => ⟨S4x12x12x3x3x16x16x1x1, .f32⟩
  | 24 => ⟨S_, .f32⟩
  | 25 => ⟨S4x12x12x16x1x1, .f32⟩
  | 26 => ⟨S4x12x12x1x1x1x16x1x1, .f32⟩
  | 27 => ⟨S4x12x12x3x3x16x16x4x4, .f32⟩
  | 28 => ⟨S4x12x12x3x3x16x16x4x4, .f32⟩
  | 29 => ⟨S_, .f32⟩
  | 30 => ⟨S4x12x12x16x4x4, .f32⟩
  | 31 => ⟨S4x12x12x1x1x1x16x4x4, .f32⟩
  | 32 => ⟨S_, .f32⟩
  | 33 => ⟨S4x12x12x1x1x1x16x1x1, .f32⟩
  | 34 => ⟨S4x12x12x1x1x1x16x1x1, .f32⟩
  | 35 => ⟨S4x12x12x1x1x1x16x4x4, .f32⟩
  | 36 => ⟨S4x12x12x1x1x1x16x4x4, .f32⟩
  | 37 => ⟨S_, .f32⟩
  | 38 => ⟨S4x12x12x1x1x1x16x4x4, .f32⟩
  | 39 => ⟨S4x12x12x1x1x1x16x4x4, .f32⟩
  | 40 => ⟨S_, .f32⟩
  | 41 => ⟨S4x12x12x1x1x1x16x4x4, .f32⟩
  | 42 => ⟨S4x12x12x1x1x1x16x4x4, .f32⟩
  | 43 => ⟨S4x12x12x1x1x1x16x4x4, .f32⟩
  | 44 => ⟨S4x12x12x3x3x16x16x4x4, .f32⟩
  | 45 => ⟨S4x12x12x3x3x16x16x4x4, .f32⟩
  | 46 => ⟨S4x12x12x3x3x16x16x4x4, .f32⟩
  | 47 => ⟨S4x12x12x3x3x16x16x4x4, .f32⟩
  | 48 => ⟨S4x12x12x3x3x16x16x4x4, .f32⟩
  | 49 => ⟨S_, .f32⟩
  | 50 => ⟨S4x12x12x16x4x4, .f32⟩
  | 51 => ⟨S4x12x12x1x1x1x16x4x4, .f32⟩
  | 52 => ⟨S_, .f32⟩
  | 53 => ⟨S4x12x12x1x1x1x16x1x1, .f32⟩
  | 54 => ⟨S4x12x12x1x1x1x16x1x1, .f32⟩
  | 55 => ⟨S4x12x12x1x1x1x16x4x4, .f32⟩
  | 56 => ⟨S4x12x12x1x1x1x16x4x4, .f32⟩
  | 57 => ⟨S_, .f32⟩
  | 58 => ⟨S4x12x12x1x1x1x16x4x4, .f32⟩
  | 59 => ⟨S4x12x12x1x1x1x16x4x4, .f32⟩
  | 60 => ⟨S_, .f32⟩
  | 61 => ⟨S4x12x12x1x1x1x16x4x4, .f32⟩
  | 62 => ⟨S4x12x12x1x1x1x16x4x4, .f32⟩
  | 63 => ⟨S4x12x12x1x1x1x16x4x4, .f32⟩
  | 64 => ⟨S_, .f32⟩
  | 65 => ⟨S4x12x12x1x1x1x16x4x4, .f32⟩
  | 66 => ⟨S4x12x12x1x1x1x16x4x4, .f32⟩
  | 67 => ⟨S4x12x12x1x1x1x16x4x4, .f32⟩
  | 68 => ⟨S4x12x12x1x1x1x16x4x4, .f32⟩
  | 69 => ⟨S4x12x12x1x1x1x16x4x4, .f32⟩
  | 70 => ⟨S4x12x12x1x1x1x16x4x4, .f32⟩
  | 71 => ⟨S_, .f32⟩
  | 72 => ⟨S4x12x12x1x1x1x16x4x4, .f32⟩
  | 73 => ⟨S4x12x12x1x1x1x16x4x4, .f32⟩
  | 74 => ⟨S_, .f32⟩
  | 75 => ⟨S4x12x12x1x1x1x16, .f32⟩
  | 76 => ⟨S4x12x12x1x1x1x16x1x1, .f32⟩
  | 77 => ⟨S4x12x12x1x1x1x16x1x1, .f32⟩
  | 78 => ⟨S4x12x12x1x1x1x16x1x1, .f32⟩
  | 79 => ⟨S_, .f32⟩
  | 80 => ⟨S4x12x12x1x1x1x16x1x1, .f32⟩
  | 81 => ⟨S4x12x12x1x1x1x16x1x1, .f32⟩
  | 82 => ⟨S4x12x12x1x1x1x16x1x1, .f32⟩
  | 83 => ⟨S4x12x12x1x1x1x16x1x1, .f32⟩
  | 84 => ⟨S_, .f32⟩
  | 85 => ⟨S4x12x12x1x1x1x16x1x1, .f32⟩
  | 86 => ⟨S4x12x12x1x1x1x16x1x1, .f32⟩
  | 87 => ⟨S_, .f32⟩
  | 88 => ⟨S4x12x12x1x1x1x16x1x1, .f32⟩
  | 89 => ⟨S4x12x12x1x1x1x16x1x1, .f32⟩
  | 90 => ⟨S_, .f32⟩
  | 91 => ⟨S4x12x12x1x1x1x16x4x4, .f32⟩
  | 92 => ⟨S4x12x12x1x1x1x16x4x4, .f32⟩
  | 93 => ⟨S4x12x12x1x1x1x16x4x4, .f32⟩
  | 94 => ⟨S4x12x12x3x3x16x16x4x4, .f32⟩
  | 95 => ⟨S4x12x12x3x3x16x16x4x4, .f32⟩
  | 96 => ⟨S4x12x12x3x3x16x16x4x4, .f32⟩
  | 97 => ⟨S_, .f32⟩
  | 98 => ⟨S4x12x12x1x1x1x16x4x4, .f32⟩
  | 99 => ⟨S4x12x12x1x1x1x16x4x4, .f32⟩
  | 100 => ⟨S4x12x12x3x3x16x16x4x4, .f32⟩
  | 101 => ⟨S4x12x12x3x3x16x16x4x4, .f32⟩
  | 102 => ⟨S4x12x12x3x3x16x16x4x4, .f32⟩
  | 103 => ⟨S4x12x12x3x3x16x16x4x4, .f32⟩
  | 104 => ⟨S_, .f32⟩
  | 105 => ⟨S4x12x12x3x3x16x16, .f32⟩
  | 106 => ⟨S4x12x12x3x3x16x16x1x1, .f32⟩
  | 107 => ⟨S4x12x12x3x3x16x16x1x1, .f32⟩
  | 108 => ⟨S4x12x12x1x1x1x16x1x1, .f32⟩
  | 109 => ⟨S4x12x12x3x3x16x16x1x1, .f32⟩
  | 110 => ⟨S4x12x12x3x3x16x16x1x1, .f32⟩
  | 111 => ⟨S_, .f32⟩
  | 112 => ⟨S_, .f32⟩
  | 113 => ⟨S4x12x12x3x3x16x16x1x1, .f32⟩
  | 114 => ⟨S4x12x12x3x3x16x16x1x1, .f32⟩
  | 115 => ⟨S4x12x12x3x3x16x16x1x1, .f32⟩
  | 116 => ⟨S_, .f32⟩
  | 117 => ⟨S4x12x12x16x1x1, .f32⟩
  | 118 => ⟨S4x12x12x1x1x16x1x1x1, .f32⟩
  | 119 => ⟨S_, .f32⟩
  | 120 => ⟨S4x12x12x1x1x16x1x1x1, .f32⟩
  | 121 => ⟨S4x12x12x1x1x16x1x1x1, .f32⟩
  | 122 => ⟨S4x12x12x3x3x16x16x1x1, .f32⟩
  | 123 => ⟨S4x12x12x3x3x16x16x1x1, .f32⟩
  | 124 => ⟨S4x12x12x3x3x16x16x1x1, .f32⟩
  | 125 => ⟨S4x12x12x3x3x16x16x1x1, .f32⟩
  | 126 => ⟨S_, .f32⟩
  | 127 => ⟨S4x12x12x16x1x1, .f32⟩
  | _ => ⟨S4x12x12x3x3x16x16x4x4, .f32⟩

abbrev hbmTy0_1 (i : Nat) : BufTy := match i % 128 with
  | 0 => ⟨S4x12x12x1x1x1x16x1x1, .f32⟩
  | 1 => ⟨S4x12x12x3x3x16x16x4x4, .f32⟩
  | 2 => ⟨S4x12x12x3x3x16x16x4x4, .f32⟩
  | 3 => ⟨S_, .f32⟩
  | 4 => ⟨S4x12x12x16x4x4, .f32⟩
  | 5 => ⟨S4x12x12x1x1x1x16x4x4, .f32⟩
  | 6 => ⟨S_, .f32⟩
  | 7 => ⟨S4x12x12x1x1x1x16x1x1, .f32⟩
  | 8 => ⟨S4x12x12x1x1x1x16x1x1, .f32⟩
  | 9 => ⟨S4x12x12x1x1x1x16x4x4, .f32⟩
  | 10 => ⟨S4x12x12x1x1x1x16x4x4, .f32⟩
  | 11 => ⟨S_, .f32⟩
  | 12 => ⟨S4x12x12x1x1x1x16x4x4, .f32⟩
  | 13 => ⟨S4x12x12x1x1x1x16x4x4, .f32⟩
  | 14 => ⟨S_, .f32⟩
  | 15 => ⟨S4x12x12x1x1x1x16x4x4, .f32⟩
  | 16 => ⟨S4x12x12x1x1x1x16x4x4, .f32⟩
  | 17 => ⟨S4x12x12x1x1x1x16x4x4, .f32⟩
  | 18 => ⟨S4x12x12x3x3x16x16x4x4, .f32⟩
  | 19 => ⟨S4x12x12x3x3x16x16x4x4, .f32⟩
  | 20 => ⟨S4x12x12x3x3x16x16x4x4, .f32⟩
  | 21 => ⟨S4x12x12x3x3x16x16x4x4, .f32⟩
  | 22 => ⟨S4x12x12x3x3x16x16x4x4, .f32⟩
  | 23 => ⟨S_, .f32⟩
  | 24 => ⟨S4x12x12x16x4x4, .f32⟩
  | 25 => ⟨S4x12x12x1x1x1x16x4x4, .f32⟩
  | 26 => ⟨S_, .f32⟩
  | 27 => ⟨S4x12x12x1x1x1x16x1x1, .f32⟩
  | 28 => ⟨S4x12x12x1x1x1x16x1x1, .f32⟩
  | 29 => ⟨S4x12x12x1x1x1x16x4x4, .f32⟩
  | 30 => ⟨S4x12x12x1x1x1x16x4x4, .f32⟩
  | 31 => ⟨S_, .f32⟩
  | 32 => ⟨S4x12x12x1x1x1x16x4x4, .f32⟩
  | 33 => ⟨S4x12x12x1x1x1x16x4x4, .f32⟩
  | 34 => ⟨S_, .f32⟩
  | 35 => ⟨S4x12x12x1x1x1x16x4x4, .f32⟩
  | 36 => ⟨S4x12x12x1x1x1x16x4x4, .f32⟩
  | 37 => ⟨S4x12x12x1x1x1x16x4x4, .f32⟩
  | 38 => ⟨S_, .f32⟩
  | 39 => ⟨S4x12x12x1x1x1x16x4x4, .f32⟩
  | 40 => ⟨S4x12x12x1x1x1x16x4x4, .f32⟩
  | 41 => ⟨S4x12x12x1x1x1x16x4x4, .f32⟩
  | 42 => ⟨S4x12x12x1x1x1x16x4x4, .f32⟩
  | 43 => ⟨S4x12x12x1x1x1x16x4x4, .f32⟩
  | 44 => ⟨S4x12x12x1x1x1x16x4x4, .f32⟩
  | 45 => ⟨S_, .f32⟩
  | 46 => ⟨S4x12x12x1x1x1x16x4x4, .f32⟩
  | 47 => ⟨S4x12x12x1x1x1x16x4x4, .f32⟩
  | 48 => ⟨S_, .f32⟩
  | 49 => ⟨S4x12x12x1x1x1x16, .f32⟩
  | 50 => ⟨S4x12x12x1x1x1x16x1x1, .f32⟩
  | 51 => ⟨S4x12x12x1x1x1x16x1x1, .f32⟩
  | 52 => ⟨S4x12x12x1x1x1x16x1x1, .f32⟩
  | 53 => ⟨S_, .f32⟩
  | 54 => ⟨S4x12x12x1x1x1x16x1x1, .f32⟩
  | 55 => ⟨S4x12x12x1x1x1x16x1x1, .f32⟩
  | 56 => ⟨S4x12x12x1x1x1x16x1x1, .f32⟩
  | 57 => ⟨S4x12x12x1x1x1x16x1x1, .f32⟩
  | 58 => ⟨S_, .f32⟩
  | 59 => ⟨S4x12x12x1x1x1x16x1x1, .f32⟩
  | 60 => ⟨S4x12x12x1x1x1x16x1x1, .f32⟩
  | 61 => ⟨S_, .f32⟩
  | 62 => ⟨S4x12x12x1x1x1x16x1x1, .f32⟩
  | 63 => ⟨S4x12x12x1x1x1x16x1x1, .f32⟩
  | 64 => ⟨S4x12x12x16x4x4, .f32⟩
  | 65 => ⟨S4x12x12x16x1x1, .f32⟩
  | _ => ⟨S4x12x12x3x3x16x16x4x4, .f32⟩

abbrev hbmTy (i : Nat) : BufTy := match i / 128 with
  | 0 => hbmTy0_0 i
  | 1 => hbmTy0_1 i
  | _ => ⟨S4x12x12x3x3x16x16x4x4, .f32⟩

abbrev bufTy : (tb : Table) → Fin (tcTables nBuf tb) → BufTy
  | .hbm, ⟨i, _⟩ => hbmTy i
  | _, _ => ⟨S4x12x12x3x3x16x16x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_20 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_21 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_22 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_23 : Ref sig .tc := ⟨.hbm, 116, rfl⟩
abbrev main_v88 : Ref sig .tc := ⟨.hbm, 117, rfl⟩
abbrev main_v89 : Ref sig .tc := ⟨.hbm, 118, rfl⟩
abbrev main_cst_24 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_25 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_26 : Ref sig .tc := ⟨.hbm, 131, rfl⟩
abbrev main_v100 : Ref sig .tc := ⟨.hbm, 132, rfl⟩
abbrev main_v101 : Ref sig .tc := ⟨.hbm, 133, rfl⟩
abbrev main_cst_27 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_28 : Ref sig .tc := ⟨.hbm, 139, rfl⟩
abbrev main_v106 : Ref sig .tc := ⟨.hbm, 140, rfl⟩
abbrev main_v107 : Ref sig .tc := ⟨.hbm, 141, rfl⟩
abbrev main_cst_29 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_30 : Ref sig .tc := ⟨.hbm, 151, rfl⟩
abbrev main_v116 : Ref sig .tc := ⟨.hbm, 152, rfl⟩
abbrev main_v117 : Ref sig .tc := ⟨.hbm, 153, rfl⟩
abbrev main_cst_31 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_32 : Ref sig .tc := ⟨.hbm, 159, rfl⟩
abbrev main_v122 : Ref sig .tc := ⟨.hbm, 160, rfl⟩
abbrev main_v123 : Ref sig .tc := ⟨.hbm, 161, rfl⟩
abbrev main_cst_33 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_34 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_35 : Ref sig .tc := ⟨.hbm, 173, rfl⟩
abbrev main_v133 : Ref sig .tc := ⟨.hbm, 174, rfl⟩
abbrev main_v134 : Ref sig .tc := ⟨.hbm, 175, rfl⟩
abbrev main_cst_36 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_37 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_38 : Ref sig .tc := ⟨.hbm, 186, rfl⟩
abbrev main_v143 : Ref sig .tc := ⟨.hbm, 187, rfl⟩
abbrev main_v144 : Ref sig .tc := ⟨.hbm, 188, rfl⟩
abbrev main_cst_39 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩

abbrev nD : Nat := 1
abbrev τ : Topo := Topo.v7x

variable {F : FTy → Type} [FloatOps F]
-- ==== Proof.KernelIdealPhase1.lean ====
/-
Phase 1 of the kernel: what one run of its body leaves in the staging buffers, and the pipeline's proof data. Each output block is a
function of the point's input blocks; the one-element running maximum is carried from point to point and started at the first.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic

@[expose] public section

set_option maxRecDepth 16384

noncomputable section

namespace Cert.KernelIdeal.Em

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one block of phase 1 computes -/

/-- The compacted votes of one block: the sixteen slices of the loaded block, each placed by a 0/1 matrix, summed. -/
def votes0 (x0 : Vec F S8x144x16x16 .f32) : FVec F S8x144x256 .f32 :=
  k0_pay12 (k0_pay1 x0)
    (k0_pay9 (k0_pay1 x0)
      (k0_pay7 (k0_pay1 x0) (k0_pay4 (k0_pay1 x0) (k0_pay2 x0) (k0_pay3 x0)) (k0_pay5 (k0_pay1 x0)) k0_pay6)
      (k0_pay8 (k0_pay1 x0)) (iota .tc S16x256 32 [1] iota_S16x256_d1_w32))
    (k0_pay10 (k0_pay1 x0)) k0_pay11

/-- The weighted mean of the votes of one block. -/
def mu0 (x0 : Vec F S8x144x16x16 .f32) (x1 : Vec F S8x144 .f32) : FVec F S8x256 .f32 :=
  k0_pay20 (votes0 x0) (k0_pay13 x1)

/-- The weighted variance of the votes of one block, with the floor added. -/
def sg0 (x0 : Vec F S8x144x16x16 .f32) (x1 : Vec F S8x144 .f32) : FVec F S8x256 .f32 :=
  k0_pay21 (votes0 x0) (k0_pay13 x1)

/-- The argument of the activation's logistic, of one block. -/
def arg0 (x0 : Vec F S8x144x16x16 .f32) (x1 : Vec F S8x144 .f32) (x2 : Vec F S1x256 .f32) (x3 : Vec F S1x16 .f32)
    (x4 : Vec F S256x16 .f32) : FVec F S8x16 .f32 :=
  k0_pay22 (votes0 x0) (k0_pay13 x1) (k0_pay14 x4) (k0_pay15 x2) x3

/-- The log of the activation, of one block. -/
def la0 (x0 : Vec F S8x144x16x16 .f32) (x1 : Vec F S8x144 .f32) (x2 : Vec F S1x256 .f32) (x3 : Vec F S1x16 .f32)
    (x4 : Vec F S256x16 .f32) : FVec F S8x16 .f32 :=
  k0_pay23 (arg0 x0 x1 x2 x3 x4)

/-- The running maximum of the unnormalised log-probabilities after the block at grid coordinate `i`, from the value before. -/
def gm0 (i : grid0.Coords) (x0 : Vec F S8x144x16x16 .f32) (x1 : Vec F S8x144 .f32) (x2 : Vec F S1x256 .f32) (x3 : Vec F S1x16 .f32)
    (x4 : Vec F S256x16 .f32) (g : Vec F S1x1 .f32) : FVec F S1x1 .f32 :=
  k0_pay24 (BitVec.ofNat 32 (i 0).val) (votes0 x0) (k0_pay14 x4) (mu0 x0 x1) (sg0 x0 x1) (arg0 x0 x1 x2 x3 x4) g

/-- At the first block the value before is not read: the body starts from minus infinity. -/
theorem gm0_first (i : grid0.Coords) (hi : (i 0).val = 0) (x0 : Vec F S8x144x16x16 .f32) (x1 : Vec F S8x144 .f32) (x2 : Vec F S1x256 .f32)
    (x3 : Vec F S1x16 .f32) (x4 : Vec F S256x16 .f32) (g g' : Vec F S1x1 .f32) :
    gm0 i x0 x1 x2 x3 x4 g = gm0 i x0 x1 x2 x3 x4 g' := by
  unfold gm0 k0_pay24
  rw [hi]
  rfl

/-! ## The body run on whole staging buffers -/

/-- Offsets that are all zero, of rank 2. -/
private theorem z2 : (![0, 0] : Fin 2 → ℕ) = fun _ => 0 := by funext a; fin_cases a <;> rfl
/-- Offsets that are all zero, of rank 3. -/
private theorem z3 : (![0, 0, 0] : Fin 3 → ℕ) = fun _ => 0 := by funext a; fin_cases a <;> rfl
/-- Offsets that are all zero, of rank 4. -/
private theorem z4 : (![0, 0, 0, 0] : Fin 4 → ℕ) = fun _ => 0 := by funext a; fin_cases a <;> rfl

/-- One store over a whole staging buffer leaves its payload there. -/
private theorem whole_store {S : Shape} (v : View sig .tc .vmem S .f32) (f : v.ty.Contents (Elt F)) {off : Fin S.rank → Nat}
    (h : off = fun _ => 0) (inb : ∀ a, off a + S.size a ≤ S.size a) (w : S.Idx → Elt F .f32) :
    v.read (Elt F) (v.writes (Elt F) f [(⟨Rect.unit off S.size inb, w⟩ : View.Piece (Elt F) S .f32)]) = w :=
  (View.read_writes_eq_canon v f _ fun y => ⟨_, List.mem_singleton_self _, View.mem_set_unit_zero h inb y⟩).trans
    (View.canon_unit_zero h inb w)

set_option maxHeartbeats 1000000 in
/-- The body on whole staging buffers: every input's buffer keeps what it holds, and every output's ends at its value of them. -/
theorem body0_run (c : Dev nD) (E : Set ℕ) (i : grid0.Coords)
    (a1 : Memref sig .tc .vmem S8x144x16x16 .f32) (h1 : a1.IsWhole) (a2 : Memref sig .tc .vmem S8x144 .f32) (h2 : a2.IsWhole) (a3 : Memref sig .tc .vmem S1x256 .f32) (h3 : a3.IsWhole) (a4 : Memref sig .tc .vmem S1x16 .f32) (h4 : a4.IsWhole) (a5 : Memref sig .tc .vmem S256x16 .f32) (h5 : a5.IsWhole) (a6 : Memref sig .tc .vmem S8x144x256 .f32) (h6 : a6.IsWhole) (a7 : Memref sig .tc .vmem S8x256 .f32) (h7 : a7.IsWhole) (a8 : Memref sig .tc .vmem S8x256 .f32) (h8 : a8.IsWhole) (a9 : Memref sig .tc .vmem S8x16 .f32) (h9 : a9.IsWhole) (a10 : Memref sig .tc .vmem S1x1 .f32) (h10 : a10.IsWhole)
    (x0 : Vec F S8x144x16x16 .f32) (x1 : Vec F S8x144 .f32) (x2 : Vec F S1x256 .f32) (x3 : Vec F S1x16 .f32) (x4 : Vec F S256x16 .f32) (g9 : Vec F S1x1 .f32) (Q : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ owns (c : Thread nD τ) a10 fullShare g9
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (votes0 x0) ∗ owns (c : Thread nD τ) a7 fullShare (mu0 x0 x1) ∗ owns (c : Thread nD τ) a8 fullShare (sg0 x0 x1) ∗ owns (c : Thread nD τ) a9 fullShare (la0 x0 x1 x2 x3 x4) ∗ owns (c : Thread nD τ) a10 fullShare (gm0 i x0 x1 x2 x3 x4 g9)) -∗ Q ⟨⟩))
      ⊢ wp frame (wpE (defs₀ (F := F)) Variants.none c none) E (cc0__compact_body i a1 h1 a2 h2 a3 h3 a4 h4 a5 h5 a6 h6 a7 h7 a8 h8 a9 h9 a10 h10) Q := by
  have e5 : votes0 x0 = votes0 (View.ld x0 (Rect.unit (s := S8x144x16x16) ![0, 0, 0, 0] S8x144x16x16.size inb_S8x144x16x16_S8x144x16x16_0_0_0_0)) := by
    rw [View.ld_unit_zero (S := S8x144x16x16) z4 _ x0]
  have e6 : mu0 x0 x1 = mu0 (View.ld x0 (Rect.unit (s := S8x144x16x16) ![0, 0, 0, 0] S8x144x16x16.size inb_S8x144x16x16_S8x144x16x16_0_0_0_0)) (View.ld x1 (Rect.unit (s := S8x144) ![0, 0] S8x144.size inb_S8x144_S8x144_0_0)) := by
    rw [View.ld_unit_zero (S := S8x144x16x16) z4 _ x0, View.ld_unit_zero (S := S8x144) z2 _ x1]
  have e7 : sg0 x0 x1 = sg0 (View.ld x0 (Rect.unit (s := S8x144x16x16) ![0, 0, 0, 0] S8x144x16x16.size inb_S8x144x16x16_S8x144x16x16_0_0_0_0)) (View.ld x1 (Rect.unit (s := S8x144) ![0, 0] S8x144.size inb_S8x144_S8x144_0_0)) := by
    rw [View.ld_unit_zero (S := S8x144x16x16) z4 _ x0, View.ld_unit_zero (S := S8x144) z2 _ x1]
  have e8 : la0 x0 x1 x2 x3 x4 = la0 (View.ld x0 (Rect.unit (s := S8x144x16x16) ![0, 0, 0, 0] S8x144x16x16.size inb_S8x144x16x16_S8x144x16x16_0_0_0_0)) (View.ld x1 (Rect.unit (s := S8x144) ![0, 0] S8x144.size inb_S8x144_S8x144_0_0)) (View.ld x2 (Rect.unit (s := S1x256) ![0, 0] S1x256.size inb_S1x256_S1x256_0_0)) (View.ld x3 (Rect.unit (s := S1x16) ![0, 0] S1x16.size inb_S1x16_S1x16_0_0)) (View.ld x4 (Rect.unit (s := S256x16) ![0, 0] S256x16.size inb_S256x16_S256x16_0_0)) := by
    rw [View.ld_unit_zero (S := S8x144x16x16) z4 _ x0, View.ld_unit_zero (S := S8x144) z2 _ x1, View.ld_unit_zero (S := S1x256) z2 _ x2, View.ld_unit_zero (S := S1x16) z2 _ x3, View.ld_unit_zero (S := S256x16) z2 _ x4]
  have e9 : gm0 i x0 x1 x2 x3 x4 g9 = gm0 i (View.ld x0 (Rect.unit (s := S8x144x16x16) ![0, 0, 0, 0] S8x144x16x16.size inb_S8x144x16x16_S8x144x16x16_0_0_0_0)) (View.ld x1 (Rect.unit (s := S8x144) ![0, 0] S8x144.size inb_S8x144_S8x144_0_0)) (View.ld x2 (Rect.unit (s := S1x256) ![0, 0] S1x256.size inb_S1x256_S1x256_0_0)) (View.ld x3 (Rect.unit (s := S1x16) ![0, 0] S1x16.size inb_S1x16_S1x16_0_0)) (View.ld x4 (Rect.unit (s := S256x16) ![0, 0] S256x16.size inb_S256x16_S256x16_0_0)) (View.ld g9 (Rect.unit (s := S1x1) ![0, 0] S1x1.size inb_S1x1_S1x1_0_0)) := by
    rw [View.ld_unit_zero (S := S8x144x16x16) z4 _ x0, View.ld_unit_zero (S := S8x144) z2 _ x1, View.ld_unit_zero (S := S1x256) z2 _ x2, View.ld_unit_zero (S := S1x16) z2 _ x3, View.ld_unit_zero (S := S256x16) z2 _ x4, View.ld_unit_zero (S := S1x1) z2 _ g9]
  rw [e5, e6, e7, e8, e9]
  simp only [cc0__compact_body_eq_skeleton]; unfold cc0__compact_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %q0, H0⟩, ⟨%f1, %q1, H1⟩, ⟨%f2, %q2, H2⟩, ⟨%f3, %q3, H3⟩, ⟨%f4, %q4, H4⟩, ⟨%d5, %f5, -, H5⟩, ⟨%d6, %f6, -, H6⟩, ⟨%d7, %f7, -, H7⟩, ⟨%d8, %f8, -, H8⟩, ⟨%f9, %q9, H9⟩, Hk⟩
  subst q0 q1 q2 q3 q4 q9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (whole_store (S := S8x144x256) _ _ z3 _ _).trans ?_
    rfl
  isplitl [H6]
  · iexists _; isplitr
    swap; · iexact H6
    ipureintro
    refine (whole_store (S := S8x256) _ _ z2 _ _).trans ?_
    rfl
  isplitl [H7]
  · iexists _; isplitr
    swap; · iexact H7
    ipureintro
    refine (whole_store (S := S8x256) _ _ z2 _ _).trans ?_
    rfl
  isplitl [H8]
  · iexists _; isplitr
    swap; · iexact H8
    ipureintro
    refine (whole_store (S := S8x16) _ _ z2 _ _).trans ?_
    rfl
  iexists _; isplitr
  swap; · iexact H9
  ipureintro
  refine (whole_store (S := S1x1) _ _ z2 _ _).trans ?_
  rfl

/-! ## The proof data of the pipeline -/

section Region
variable (V : (c : Dev nD) → (b : Ref sig .tc) → Buf (Elt F) ((c : Thread nD τ).loc b))

/-- The block of window `w` at point `t`, cut out of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid coordinate of a point is the point. -/
theorem coord0 (t : Fin cfg0.N) : ((grid0.coords t) 0).val = t.val := by
  revert t; decide +kernel

/-- The running maximum after the first `n + 1` points. -/
def run0 (c : Dev nD) : ℕ → FVec F S1x1 .f32
  | 0 => if h : 0 < cfg0.N then
      (fun t : Fin cfg0.N => gm0 (grid0.coords t) (blk0 V c 0 t) (blk0 V c 1 t) (blk0 V c 2 t) (blk0 V c 3 t) (blk0 V c 4 t) (fun _ => FloatOps.ofBits .f32 0)) ⟨0, h⟩ else fun _ => FloatOps.ofBits .f32 0
  | n + 1 => if h : n + 1 < cfg0.N then
      (fun t : Fin cfg0.N => gm0 (grid0.coords t) (blk0 V c 0 t) (blk0 V c 1 t) (blk0 V c 2 t) (blk0 V c 3 t) (blk0 V c 4 t) (run0 c n)) ⟨n + 1, h⟩ else run0 c n

/-- The proof data: each input's buffer keeps its block; each output's ends at its value of the input blocks, the running maximum at
    its value over the points so far. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => votes0 (blk0 V c 0 t)
    | ⟨6, _⟩ => mu0 (blk0 V c 0 t) (blk0 V c 1 t)
    | ⟨7, _⟩ => sg0 (blk0 V c 0 t) (blk0 V c 1 t)
    | ⟨8, _⟩ => la0 (blk0 V c 0 t) (blk0 V c 1 t) (blk0 V c 2 t) (blk0 V c 3 t) (blk0 V c 4 t)
    | ⟨9, _⟩ => run0 V c t.val
  Φ _ := Pipeline.ΦA spec0 c
  q _ := fullShare
  owed _ := 0

/-- The arrays of the proof data are the region's entry contents. -/
theorem dat0_A (c : Dev nD) (w : Fin cfg0.W) : (dat0 V c).A w = V c (Pipeline.arrRef spec0 w) := by
  dsimp only [dat0]

/-- What window 0's buffer holds after a point. -/
theorem after0_0 (c : Dev nD) (t : Fin cfg0.N) : (dat0 V c).after 0 t = blk0 V c 0 t := by dsimp only [dat0]
/-- What window 1's buffer holds after a point. -/
theorem after0_1 (c : Dev nD) (t : Fin cfg0.N) : (dat0 V c).after 1 t = blk0 V c 1 t := by dsimp only [dat0]
/-- What window 2's buffer holds after a point. -/
theorem after0_2 (c : Dev nD) (t : Fin cfg0.N) : (dat0 V c).after 2 t = blk0 V c 2 t := by dsimp only [dat0]
/-- What window 3's buffer holds after a point. -/
theorem after0_3 (c : Dev nD) (t : Fin cfg0.N) : (dat0 V c).after 3 t = blk0 V c 3 t := by dsimp only [dat0]
/-- What window 4's buffer holds after a point. -/
theorem after0_4 (c : Dev nD) (t : Fin cfg0.N) : (dat0 V c).after 4 t = blk0 V c 4 t := by dsimp only [dat0]
/-- What window 5's buffer holds after a point. -/
theorem after0_5 (c : Dev nD) (t : Fin cfg0.N) : (dat0 V c).after 5 t = votes0 (blk0 V c 0 t) := by dsimp only [dat0]
/-- What window 6's buffer holds after a point. -/
theorem after0_6 (c : Dev nD) (t : Fin cfg0.N) : (dat0 V c).after 6 t = mu0 (blk0 V c 0 t) (blk0 V c 1 t) := by dsimp only [dat0]
/-- What window 7's buffer holds after a point. -/
theorem after0_7 (c : Dev nD) (t : Fin cfg0.N) : (dat0 V c).after 7 t = sg0 (blk0 V c 0 t) (blk0 V c 1 t) := by dsimp only [dat0]
/-- What window 8's buffer holds after a point. -/
theorem after0_8 (c : Dev nD) (t : Fin cfg0.N) : (dat0 V c).after 8 t = la0 (blk0 V c 0 t) (blk0 V c 1 t) (blk0 V c 2 t) (blk0 V c 3 t) (blk0 V c 4 t) := by dsimp only [dat0]
/-- What window 9's buffer holds after a point. -/
theorem after0_9 (c : Dev nD) (t : Fin cfg0.N) : (dat0 V c).after 9 t = run0 V c t.val := by dsimp only [dat0]

/-- An input's buffer holds its block at every point: fetched there, or unchanged since the block was fetched. -/
theorem before0_in (c : Dev nD) (w : Fin cfg0.W) (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dat0 V c).after w t) = (dat0 V c).blockOf w t)
    (t : Fin cfg0.N) (d) (x) (hx : (dat0 V c).fetched w t d = x) : (dat0 V c).before w t d = x :=
  ((dat0 V c).before_in_eq_fetched w hw hl hc hk t d).trans hx

/-- What window 0's buffer holds before a point's body. -/
theorem before0_0 (c : Dev nD) (t : Fin cfg0.N) (d) : (dat0 V c).before 0 t d = blk0 V c 0 t :=
  before0_in V c 0 rfl (fun _ => rfl) (fun _ _ _ => rfl) (fun t => by rw [after0_0]; unfold Dat.blockOf blk0; rw [dat0_A]; try rfl) t d _
    (by unfold Dat.fetched Dat.blockOf blk0; rw [dat0_A]; try rfl)
/-- What window 1's buffer holds before a point's body. -/
theorem before0_1 (c : Dev nD) (t : Fin cfg0.N) (d) : (dat0 V c).before 1 t d = blk0 V c 1 t :=
  before0_in V c 1 rfl (fun _ => rfl) (fun _ _ _ => rfl) (fun t => by rw [after0_1]; unfold Dat.blockOf blk0; rw [dat0_A]; try rfl) t d _
    (by unfold Dat.fetched Dat.blockOf blk0; rw [dat0_A]; try rfl)
/-- What window 2's buffer holds before a point's body. -/
theorem before0_2 (c : Dev nD) (t : Fin cfg0.N) (d) : (dat0 V c).before 2 t d = blk0 V c 2 t :=
  before0_in V c 2 rfl (fun _ => rfl) (fun _ _ _ => rfl) (fun t => by rw [after0_2]; unfold Dat.blockOf blk0; rw [dat0_A]; try rfl) t d _
    (by unfold Dat.fetched Dat.blockOf blk0; rw [dat0_A]; try rfl)
/-- What window 3's buffer holds before a point's body. -/
theorem before0_3 (c : Dev nD) (t : Fin cfg0.N) (d) : (dat0 V c).before 3 t d = blk0 V c 3 t :=
  before0_in V c 3 rfl (fun _ => rfl) (fun _ _ _ => rfl) (fun t => by rw [after0_3]; unfold Dat.blockOf blk0; rw [dat0_A]; try rfl) t d _
    (by unfold Dat.fetched Dat.blockOf blk0; rw [dat0_A]; try rfl)
/-- What window 4's buffer holds before a point's body. -/
theorem before0_4 (c : Dev nD) (t : Fin cfg0.N) (d) : (dat0 V c).before 4 t d = blk0 V c 4 t :=
  before0_in V c 4 rfl (fun _ => rfl) (fun _ _ _ => rfl) (fun t => by rw [after0_4]; unfold Dat.blockOf blk0; rw [dat0_A]; try rfl) t d _
    (by unfold Dat.fetched Dat.blockOf blk0; rw [dat0_A]; try rfl)

/-- The running maximum's buffer as the body finds it, carried through one step, is the running maximum after the step. -/
theorem acc0_step (c : Dev nD) (t : Fin cfg0.N) (d) :
    gm0 (grid0.coords t) (blk0 V c 0 t) (blk0 V c 1 t) (blk0 V c 2 t) (blk0 V c 3 t) (blk0 V c 4 t) ((dat0 V c).before 9 t d) = run0 V c t.val := by
  obtain ⟨n, hn⟩ := t
  cases n with
  | zero =>
    rw [run0, dif_pos hn]
    exact gm0_first _ (coord0 ⟨0, hn⟩) _ _ _ _ _ _ _
  | succ n =>
    rw [(dat0 V c).before_out_kept 9 rfl ⟨n + 1, hn⟩ (Nat.succ_ne_zero n)
      (by
        rw [← Bool.not_eq_true, flush0_9]
        have := N_0
        show ¬ (n + 1 - 1) % 72 = 71
        have h' : n + 1 < grid0.N := hn
        omega) (fun _ => rfl) (fun _ _ => rfl) d, after0_9, run0, dif_pos hn]
    rfl

/-! ## The body obligation -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body returns at point `t`, window by window. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point of the grid. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← acc0_step V c t d9]
  iapply (body0_run c Set.univ (grid0.coords t) _ _ _ _ _ _ _ _ _ _ _ _ _ _ _ _ _ _ _ _ (blk0 V c 0 t) (blk0 V c 1 t) (blk0 V c 2 t) (blk0 V c 3 t) (blk0 V c 4 t) ((dat0 V c).before 9 t d9) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body there. -/
theorem row0 (t : Fin cfg0.N) : defs₀ (F := F) .tc cfg0.body (cfg0.bodyArgs t (cfg0.slots t)) = bodyAt0 t := by
  unfold defs₀; rw [Defs.onTc_tc]

/-- The pipeline's body obligation, at every point. -/
theorem obligation0 (c : Dev nD) : BodyObligation (dat0 (F := F) V c) (defs₀ (F := F)) Variants.none () Set.univ := fun t => by
  rw [bigSep_W0, bigSep_W0, row0]
  exact triple_restated (body0_at V c t) rfl .rfl fun _ => .rfl

end Region

end Cert.KernelIdeal.Em

end
-- ==== Proof.KernelIdealPhase2.lean ====
/-
Phase 2 of the kernel: what one run of its body leaves in the staging buffers, and the pipeline's proof data. Each output block is a
function of the point's input blocks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic

@[expose] public section

set_option maxRecDepth 16384

noncomputable section

namespace Cert.KernelIdeal.Em

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one block of phase 2 computes -/

/-- The poses of one block: the routed mean of its votes. -/
def pose1 (x0 : Vec F S16x144x256 .f32) (x1 : Vec F S16x144 .f32) (x2 : Vec F S16x256 .f32) (x3 : Vec F S16x256 .f32) (x4 : Vec F S16x16 .f32)
    (x5 : Vec F S1x1 .f32) (x8 : Vec F S256x16 .f32) (x9 : Vec F S16x256 .f32) (x10 : Vec F S144x16 .f32) (x11 : Vec F S16x144 .f32) : FVec F S16x256 .f32 :=
  k1_pay20 (k1_pay2 x0) (k1_pay3 x1) (k1_pay4 x3) (k1_pay5 x4) (k1_pay6 x5) (k1_pay7 x8) (k1_pay8 x9) (k1_pay9 x10) (k1_pay10 x11) (k1_pay13 x0 x2) (k1_pay14 x3)

/-- The activations of one block: the logistic of the routed cost. -/
def act1 (x0 : Vec F S16x144x256 .f32) (x1 : Vec F S16x144 .f32) (x2 : Vec F S16x256 .f32) (x3 : Vec F S16x256 .f32) (x4 : Vec F S16x16 .f32)
    (x5 : Vec F S1x1 .f32) (x8 : Vec F S256x16 .f32) (x9 : Vec F S16x256 .f32) (x10 : Vec F S144x16 .f32) (x11 : Vec F S16x144 .f32)
    (x6 : Vec F S1x256 .f32) (x7 : Vec F S1x16 .f32) : FVec F S16x16 .f32 :=
  k1_pay1 (k1_pay7 x8) (k1_pay11 x6) (k1_pay12 x7)
    (k1_pay18 (k1_pay3 x1) (k1_pay4 x3) (k1_pay5 x4) (k1_pay6 x5) (k1_pay7 x8) (k1_pay8 x9) (k1_pay9 x10) (k1_pay10 x11) (k1_pay13 x0 x2) (k1_pay14 x3))
    (k1_pay19 (k1_pay3 x1) (k1_pay4 x3) (k1_pay5 x4) (k1_pay6 x5) (k1_pay7 x8) (k1_pay8 x9) (k1_pay9 x10) (k1_pay10 x11) (k1_pay13 x0 x2) (k1_pay14 x3))
    (k1_pay21 (k1_pay2 x0) (k1_pay3 x1) (k1_pay4 x3) (k1_pay5 x4) (k1_pay6 x5) (k1_pay7 x8) (k1_pay8 x9) (k1_pay9 x10) (k1_pay10 x11) (k1_pay13 x0 x2) (k1_pay14 x3))
    (k1_pay22 (k1_pay2 x0) (k1_pay3 x1) (k1_pay4 x3) (k1_pay5 x4) (k1_pay6 x5) (k1_pay7 x8) (k1_pay8 x9) (k1_pay9 x10) (k1_pay10 x11) (k1_pay13 x0 x2) (k1_pay14 x3))

/-! ## The body run on whole staging buffers -/

/-- Offsets that are all zero, of rank 2. -/
private theorem z2 : (![0, 0] : Fin 2 → ℕ) = fun _ => 0 := by funext a; fin_cases a <;> rfl
/-- Offsets that are all zero, of rank 3. -/
private theorem z3 : (![0, 0, 0] : Fin 3 → ℕ) = fun _ => 0 := by funext a; fin_cases a <;> rfl
/-- Offsets that are all zero, of rank 4. -/
private theorem z4 : (![0, 0, 0, 0] : Fin 4 → ℕ) = fun _ => 0 := by funext a; fin_cases a <;> rfl

/-- One store over a whole staging buffer leaves its payload there. -/
private theorem whole_store {S : Shape} (v : View sig .tc .vmem S .f32) (f : v.ty.Contents (Elt F)) {off : Fin S.rank → Nat}
    (h : off = fun _ => 0) (inb : ∀ a, off a + S.size a ≤ S.size a) (w : S.Idx → Elt F .f32) :
    v.read (Elt F) (v.writes (Elt F) f [(⟨Rect.unit off S.size inb, w⟩ : View.Piece (Elt F) S .f32)]) = w :=
  (View.read_writes_eq_canon v f _ fun y => ⟨_, List.mem_singleton_self _, View.mem_set_unit_zero h inb y⟩).trans
    (View.canon_unit_zero h inb w)

set_option maxHeartbeats 1000000 in
/-- The body on whole staging buffers: every input's buffer keeps what it holds, and every output's ends at its value of them. -/
theorem body1_run (c : Dev nD) (E : Set ℕ) (i : grid1.Coords)
    (a1 : Memref sig .tc .vmem S16x144x256 .f32) (h1 : a1.IsWhole) (a2 : Memref sig .tc .vmem S16x144 .f32) (h2 : a2.IsWhole) (a3 : Memref sig .tc .vmem S16x256 .f32) (h3 : a3.IsWhole) (a4 : Memref sig .tc .vmem S16x256 .f32) (h4 : a4.IsWhole) (a5 : Memref sig .tc .vmem S16x16 .f32) (h5 : a5.IsWhole) (a6 : Memref sig .tc .vmem S1x1 .f32) (h6 : a6.IsWhole) (a7 : Memref sig .tc .vmem S1x256 .f32) (h7 : a7.IsWhole) (a8 : Memref sig .tc .vmem S1x16 .f32) (h8 : a8.IsWhole) (a9 : Memref sig .tc .vmem S256x16 .f32) (h9 : a9.IsWhole) (a10 : Memref sig .tc .vmem S16x256 .f32) (h10 : a10.IsWhole) (a11 : Memref sig .tc .vmem S144x16 .f32) (h11 : a11.IsWhole) (a12 : Memref sig .tc .vmem S16x144 .f32) (h12 : a12.IsWhole) (a13 : Memref sig .tc .vmem S16x256 .f32) (h13 : a13.IsWhole) (a14 : Memref sig .tc .vmem S16x16 .f32) (h14 : a14.IsWhole)
    (x0 : Vec F S16x144x256 .f32) (x1 : Vec F S16x144 .f32) (x2 : Vec F S16x256 .f32) (x3 : Vec F S16x256 .f32) (x4 : Vec F S16x16 .f32) (x5 : Vec F S1x1 .f32) (x6 : Vec F S1x256 .f32) (x7 : Vec F S1x16 .f32) (x8 : Vec F S256x16 .f32) (x9 : Vec F S16x256 .f32) (x10 : Vec F S144x16 .f32) (x11 : Vec F S16x144 .f32) (Q : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare (pose1 x0 x1 x2 x3 x4 x5 x8 x9 x10 x11) ∗ owns (c : Thread nD τ) a14 fullShare (act1 x0 x1 x2 x3 x4 x5 x8 x9 x10 x11 x6 x7)) -∗ Q ⟨⟩))
      ⊢ wp frame (wpE (defs₀ (F := F)) Variants.none c none) E (cc1__phase2_body i a1 h1 a2 h2 a3 h3 a4 h4 a5 h5 a6 h6 a7 h7 a8 h8 a9 h9 a10 h10 a11 h11 a12 h12 a13 h13 a14 h14) Q := by
  have e12 : pose1 x0 x1 x2 x3 x4 x5 x8 x9 x10 x11 = pose1 (View.ld x0 (Rect.unit (s := S16x144x256) ![0, 0, 0] S16x144x256.size inb_S16x144x256_S16x144x256_0_0_0)) (View.ld x1 (Rect.unit (s := S16x144) ![0, 0] S16x144.size inb_S16x144_S16x144_0_0)) (View.ld x2 (Rect.unit (s := S16x256) ![0, 0] S16x256.size inb_S16x256_S16x256_0_0)) (View.ld x3 (Rect.unit (s := S16x256) ![0, 0] S16x256.size inb_S16x256_S16x256_0_0)) (View.ld x4 (Rect.unit (s := S16x16) ![0, 0] S16x16.size inb_S16x16_S16x16_0_0)) (View.ld x5 (Rect.unit (s := S1x1) ![0, 0] S1x1.size inb_S1x1_S1x1_0_0)) (View.ld x8 (Rect.unit (s := S256x16) ![0, 0] S256x16.size inb_S256x16_S256x16_0_0)) (View.ld x9 (Rect.unit (s := S16x256) ![0, 0] S16x256.size inb_S16x256_S16x256_0_0)) (View.ld x10 (Rect.unit (s := S144x16) ![0, 0] S144x16.size inb_S144x16_S144x16_0_0)) (View.ld x11 (Rect.unit (s := S16x144) ![0, 0] S16x144.size inb_S16x144_S16x144_0_0)) := by
    rw [View.ld_unit_zero (S := S16x144x256) z3 _ x0, View.ld_unit_zero (S := S16x144) z2 _ x1, View.ld_unit_zero (S := S16x256) z2 _ x2, View.ld_unit_zero (S := S16x256) z2 _ x3, View.ld_unit_zero (S := S16x16) z2 _ x4, View.ld_unit_zero (S := S1x1) z2 _ x5, View.ld_unit_zero (S := S256x16) z2 _ x8, View.ld_unit_zero (S := S16x256) z2 _ x9, View.ld_unit_zero (S := S144x16) z2 _ x10, View.ld_unit_zero (S := S16x144) z2 _ x11]
  have e13 : act1 x0 x1 x2 x3 x4 x5 x8 x9 x10 x11 x6 x7 = act1 (View.ld x0 (Rect.unit (s := S16x144x256) ![0, 0, 0] S16x144x256.size inb_S16x144x256_S16x144x256_0_0_0)) (View.ld x1 (Rect.unit (s := S16x144) ![0, 0] S16x144.size inb_S16x144_S16x144_0_0)) (View.ld x2 (Rect.unit (s := S16x256) ![0, 0] S16x256.size inb_S16x256_S16x256_0_0)) (View.ld x3 (Rect.unit (s := S16x256) ![0, 0] S16x256.size inb_S16x256_S16x256_0_0)) (View.ld x4 (Rect.unit (s := S16x16) ![0, 0] S16x16.size inb_S16x16_S16x16_0_0)) (View.ld x5 (Rect.unit (s := S1x1) ![0, 0] S1x1.size inb_S1x1_S1x1_0_0)) (View.ld x8 (Rect.unit (s := S256x16) ![0, 0] S256x16.size inb_S256x16_S256x16_0_0)) (View.ld x9 (Rect.unit (s := S16x256) ![0, 0] S16x256.size inb_S16x256_S16x256_0_0)) (View.ld x10 (Rect.unit (s := S144x16) ![0, 0] S144x16.size inb_S144x16_S144x16_0_0)) (View.ld x11 (Rect.unit (s := S16x144) ![0, 0] S16x144.size inb_S16x144_S16x144_0_0)) (View.ld x6 (Rect.unit (s := S1x256) ![0, 0] S1x256.size inb_S1x256_S1x256_0_0)) (View.ld x7 (Rect.unit (s := S1x16) ![0, 0] S1x16.size inb_S1x16_S1x16_0_0)) := by
    rw [View.ld_unit_zero (S := S16x144x256) z3 _ x0, View.ld_unit_zero (S := S16x144) z2 _ x1, View.ld_unit_zero (S := S16x256) z2 _ x2, View.ld_unit_zero (S := S16x256) z2 _ x3, View.ld_unit_zero (S := S16x16) z2 _ x4, View.ld_unit_zero (S := S1x1) z2 _ x5, View.ld_unit_zero (S := S256x16) z2 _ x8, View.ld_unit_zero (S := S16x256) z2 _ x9, View.ld_unit_zero (S := S144x16) z2 _ x10, View.ld_unit_zero (S := S16x144) z2 _ x11, View.ld_unit_zero (S := S1x256) z2 _ x6, View.ld_unit_zero (S := S1x16) z2 _ x7]
  rw [e12, e13]
  simp only [cc1__phase2_body_eq_skeleton]; unfold cc1__phase2_body_skel
  simp only [k1_part1_eq_skeleton, k1_part2_eq_skeleton]
  unfold owns
  iintro ⟨⟨%f0, %q0, H0⟩, ⟨%f1, %q1, H1⟩, ⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, ⟨%d12, %f12, -, H12⟩, ⟨%d13, %f13, -, H13⟩, Hk⟩
  subst q0 q1 q2 q3 q4 q5 q6 q7 q8 q9 q10 q11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (whole_store (S := S16x256) _ _ z2 _ _).trans ?_
    rfl
  iexists _; isplitr
  swap; · iexact H13
  ipureintro
  refine (whole_store (S := S16x16) _ _ z2 _ _).trans ?_
  rfl

/-! ## The proof data of the pipeline -/

section Region
variable (V : (c : Dev nD) → (b : Ref sig .tc) → Buf (Elt F) ((c : Thread nD τ).loc b))

/-- The block of window `w` at point `t`, cut out of its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: each input's buffer keeps its block; each output's ends at its value of the input blocks. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => pose1 (blk1 V c 0 t) (blk1 V c 1 t) (blk1 V c 2 t) (blk1 V c 3 t) (blk1 V c 4 t) (blk1 V c 5 t) (blk1 V c 8 t) (blk1 V c 9 t) (blk1 V c 10 t) (blk1 V c 11 t)
    | ⟨13, _⟩ => act1 (blk1 V c 0 t) (blk1 V c 1 t) (blk1 V c 2 t) (blk1 V c 3 t) (blk1 V c 4 t) (blk1 V c 5 t) (blk1 V c 8 t) (blk1 V c 9 t) (blk1 V c 10 t) (blk1 V c 11 t) (blk1 V c 6 t) (blk1 V c 7 t)
  Φ _ := Pipeline.ΦA spec1 c
  q _ := fullShare
  owed _ := 0

/-- The arrays of the proof data are the region's entry contents. -/
theorem dat1_A (c : Dev nD) (w : Fin cfg1.W) : (dat1 V c).A w = V c (Pipeline.arrRef spec1 w) := by
  dsimp only [dat1]

/-- What window 0's buffer holds after a point. -/
theorem after1_0 (c : Dev nD) (t : Fin cfg1.N) : (dat1 V c).after 0 t = blk1 V c 0 t := by dsimp only [dat1]
/-- What window 1's buffer holds after a point. -/
theorem after1_1 (c : Dev nD) (t : Fin cfg1.N) : (dat1 V c).after 1 t = blk1 V c 1 t := by dsimp only [dat1]
/-- What window 2's buffer holds after a point. -/
theorem after1_2 (c : Dev nD) (t : Fin cfg1.N) : (dat1 V c).after 2 t = blk1 V c 2 t := by dsimp only [dat1]
/-- What window 3's buffer holds after a point. -/
theorem after1_3 (c : Dev nD) (t : Fin cfg1.N) : (dat1 V c).after 3 t = blk1 V c 3 t := by dsimp only [dat1]
/-- What window 4's buffer holds after a point. -/
theorem after1_4 (c : Dev nD) (t : Fin cfg1.N) : (dat1 V c).after 4 t = blk1 V c 4 t := by dsimp only [dat1]
/-- What window 5's buffer holds after a point. -/
theorem after1_5 (c : Dev nD) (t : Fin cfg1.N) : (dat1 V c).after 5 t = blk1 V c 5 t := by dsimp only [dat1]
/-- What window 6's buffer holds after a point. -/
theorem after1_6 (c : Dev nD) (t : Fin cfg1.N) : (dat1 V c).after 6 t = blk1 V c 6 t := by dsimp only [dat1]
/-- What window 7's buffer holds after a point. -/
theorem after1_7 (c : Dev nD) (t : Fin cfg1.N) : (dat1 V c).after 7 t = blk1 V c 7 t := by dsimp only [dat1]
/-- What window 8's buffer holds after a point. -/
theorem after1_8 (c : Dev nD) (t : Fin cfg1.N) : (dat1 V c).after 8 t = blk1 V c 8 t := by dsimp only [dat1]
/-- What window 9's buffer holds after a point. -/
theorem after1_9 (c : Dev nD) (t : Fin cfg1.N) : (dat1 V c).after 9 t = blk1 V c 9 t := by dsimp only [dat1]
/-- What window 10's buffer holds after a point. -/
theorem after1_10 (c : Dev nD) (t : Fin cfg1.N) : (dat1 V c).after 10 t = blk1 V c 10 t := by dsimp only [dat1]
/-- What window 11's buffer holds after a point. -/
theorem after1_11 (c : Dev nD) (t : Fin cfg1.N) : (dat1 V c).after 11 t = blk1 V c 11 t := by dsimp only [dat1]
/-- What window 12's buffer holds after a point. -/
theorem after1_12 (c : Dev nD) (t : Fin cfg1.N) : (dat1 V c).after 12 t = pose1 (blk1 V c 0 t) (blk1 V c 1 t) (blk1 V c 2 t) (blk1 V c 3 t) (blk1 V c 4 t) (blk1 V c 5 t) (blk1 V c 8 t) (blk1 V c 9 t) (blk1 V c 10 t) (blk1 V c 11 t) := by dsimp only [dat1]
/-- What window 13's buffer holds after a point. -/
theorem after1_13 (c : Dev nD) (t : Fin cfg1.N) : (dat1 V c).after 13 t = act1 (blk1 V c 0 t) (blk1 V c 1 t) (blk1 V c 2 t) (blk1 V c 3 t) (blk1 V c 4 t) (blk1 V c 5 t) (blk1 V c 8 t) (blk1 V c 9 t) (blk1 V c 10 t) (blk1 V c 11 t) (blk1 V c 6 t) (blk1 V c 7 t) := by dsimp only [dat1]

/-- An input's buffer holds its block at every point: fetched there, or unchanged since the block was fetched. -/
theorem before1_in (c : Dev nD) (w : Fin cfg1.W) (hw : (cfg1.win w).isOut = false) (hl : ∀ i, cfg1.idle w i = false)
    (hc : ∀ t t' : Fin cfg1.N, (cfg1.win w).index t = (cfg1.win w).index t' →
      (cfg1.win w).clip (cfg1.grid.coords t) = (cfg1.win w).clip (cfg1.grid.coords t'))
    (hk : ∀ t, (cfg1.win w).cut (cfg1.grid.coords t) ((dat1 V c).after w t) = (dat1 V c).blockOf w t)
    (t : Fin cfg1.N) (d) (x) (hx : (dat1 V c).fetched w t d = x) : (dat1 V c).before w t d = x :=
  ((dat1 V c).before_in_eq_fetched w hw hl hc hk t d).trans hx

/-- What window 0's buffer holds before a point's body. -/
theorem before1_0 (c : Dev nD) (t : Fin cfg1.N) (d) : (dat1 V c).before 0 t d = blk1 V c 0 t :=
  before1_in V c 0 rfl (fun _ => rfl) (fun _ _ _ => rfl) (fun t => by rw [after1_0]; unfold Dat.blockOf blk1; rw [dat1_A]; try rfl) t d _
    (by unfold Dat.fetched Dat.blockOf blk1; rw [dat1_A]; try rfl)
/-- What window 1's buffer holds before a point's body. -/
theorem before1_1 (c : Dev nD) (t : Fin cfg1.N) (d) : (dat1 V c).before 1 t d = blk1 V c 1 t :=
  before1_in V c 1 rfl (fun _ => rfl) (fun _ _ _ => rfl) (fun t => by rw [after1_1]; unfold Dat.blockOf blk1; rw [dat1_A]; try rfl) t d _
    (by unfold Dat.fetched Dat.blockOf blk1; rw [dat1_A]; try rfl)
/-- What window 2's buffer holds before a point's body. -/
theorem before1_2 (c : Dev nD) (t : Fin cfg1.N) (d) : (dat1 V c).before 2 t d = blk1 V c 2 t :=
  before1_in V c 2 rfl (fun _ => rfl) (fun _ _ _ => rfl) (fun t => by rw [after1_2]; unfold Dat.blockOf blk1; rw [dat1_A]; try rfl) t d _
    (by unfold Dat.fetched Dat.blockOf blk1; rw [dat1_A]; try rfl)
/-- What window 3's buffer holds before a point's body. -/
theorem before1_3 (c : Dev nD) (t : Fin cfg1.N) (d) : (dat1 V c).before 3 t d = blk1 V c 3 t :=
  before1_in V c 3 rfl (fun _ => rfl) (fun _ _ _ => rfl) (fun t => by rw [after1_3]; unfold Dat.blockOf blk1; rw [dat1_A]; try rfl) t d _
    (by unfold Dat.fetched Dat.blockOf blk1; rw [dat1_A]; try rfl)
/-- What window 4's buffer holds before a point's body. -/
theorem before1_4 (c : Dev nD) (t : Fin cfg1.N) (d) : (dat1 V c).before 4 t d = blk1 V c 4 t :=
  before1_in V c 4 rfl (fun _ => rfl) (fun _ _ _ => rfl) (fun t => by rw [after1_4]; unfold Dat.blockOf blk1; rw [dat1_A]; try rfl) t d _
    (by unfold Dat.fetched Dat.blockOf blk1; rw [dat1_A]; try rfl)
/-- What window 5's buffer holds before a point's body. -/
theorem before1_5 (c : Dev nD) (t : Fin cfg1.N) (d) : (dat1 V c).before 5 t d = blk1 V c 5 t :=
  before1_in V c 5 rfl (fun _ => rfl) (fun _ _ _ => rfl) (fun t => by rw [after1_5]; unfold Dat.blockOf blk1; rw [dat1_A]; try rfl) t d _
    (by unfold Dat.fetched Dat.blockOf blk1; rw [dat1_A]; try rfl)
/-- What window 6's buffer holds before a point's body. -/
theorem before1_6 (c : Dev nD) (t : Fin cfg1.N) (d) : (dat1 V c).before 6 t d = blk1 V c 6 t :=
  before1_in V c 6 rfl (fun _ => rfl) (fun _ _ _ => rfl) (fun t => by rw [after1_6]; unfold Dat.blockOf blk1; rw [dat1_A]; try rfl) t d _
    (by unfold Dat.fetched Dat.blockOf blk1; rw [dat1_A]; try rfl)
/-- What window 7's buffer holds before a point's body. -/
theorem before1_7 (c : Dev nD) (t : Fin cfg1.N) (d) : (dat1 V c).before 7 t d = blk1 V c 7 t :=
  before1_in V c 7 rfl (fun _ => rfl) (fun _ _ _ => rfl) (fun t => by rw [after1_7]; unfold Dat.blockOf blk1; rw [dat1_A]; try rfl) t d _
    (by unfold Dat.fetched Dat.blockOf blk1; rw [dat1_A]; try rfl)
/-- What window 8's buffer holds before a point's body. -/
theorem before1_8 (c : Dev nD) (t : Fin cfg1.N) (d) : (dat1 V c).before 8 t d = blk1 V c 8 t :=
  before1_in V c 8 rfl (fun _ => rfl) (fun _ _ _ => rfl) (fun t => by rw [after1_8]; unfold Dat.blockOf blk1; rw [dat1_A]; try rfl) t d _
    (by unfold Dat.fetched Dat.blockOf blk1; rw [dat1_A]; try rfl)
/-- What window 9's buffer holds before a point's body. -/
theorem before1_9 (c : Dev nD) (t : Fin cfg1.N) (d) : (dat1 V c).before 9 t d = blk1 V c 9 t :=
  before1_in V c 9 rfl (fun _ => rfl) (fun _ _ _ => rfl) (fun t => by rw [after1_9]; unfold Dat.blockOf blk1; rw [dat1_A]; try rfl) t d _
    (by unfold Dat.fetched Dat.blockOf blk1; rw [dat1_A]; try rfl)
/-- What window 10's buffer holds before a point's body. -/
theorem before1_10 (c : Dev nD) (t : Fin cfg1.N) (d) : (dat1 V c).before 10 t d = blk1 V c 10 t :=
  before1_in V c 10 rfl (fun _ => rfl) (fun _ _ _ => rfl) (fun t => by rw [after1_10]; unfold Dat.blockOf blk1; rw [dat1_A]; try rfl) t d _
    (by unfold Dat.fetched Dat.blockOf blk1; rw [dat1_A]; try rfl)
/-- What window 11's buffer holds before a point's body. -/
theorem before1_11 (c : Dev nD) (t : Fin cfg1.N) (d) : (dat1 V c).before 11 t d = blk1 V c 11 t :=
  before1_in V c 11 rfl (fun _ => rfl) (fun _ _ _ => rfl) (fun t => by rw [after1_11]; unfold Dat.blockOf blk1; rw [dat1_A]; try rfl) t d _
    (by unfold Dat.fetched Dat.blockOf blk1; rw [dat1_A]; try rfl)

/-! ## The body obligation -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- What the body returns at point `t`, window by window. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point of the grid. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body1_run c Set.univ (grid1.coords t) _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body there. -/
theorem row1 (t : Fin cfg1.N) : defs₀ (F := F) .tc cfg1.body (cfg1.bodyArgs t (cfg1.slots t)) = bodyAt1 t := by
  unfold defs₀; rw [Defs.onTc_tc]

/-- The pipeline's body obligation, at every point. -/
theorem obligation1 (c : Dev nD) : BodyObligation (dat1 (F := F) V c) (defs₀ (F := F)) Variants.none () Set.univ := fun t => by
  rw [bigSep_W1, bigSep_W1, row1]
  exact triple_restated (body1_at V c t) rfl .rfl fun _ => .rfl

end Region

end Cert.KernelIdeal.Em

end
-- ==== Proof.KernelIdealRun.lean ====
/-
The kernel's run: its host operations, phase 1, phase 2 and the final reshapes in order. Every execution ends with the arguments as
they were launched, every semaphore counter at zero, and each buffer at the contents the phases' proof data give.
-/
module

public import proofs.«01_k».proof.Proof.KernelIdealPhase1
public import proofs.«01_k».proof.Proof.KernelIdealPhase2
public import proofs.«01_k».proof.Proof.Gen.KernelIdeal.Regions

@[expose] public section

set_option maxRecDepth 16384

noncomputable section

namespace Cert.KernelIdeal.Em

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the phases' boundaries -/

/-- The contents phase 1 is entered at. -/
abbrev In0 (c : Dev nD) (b : Ref sig .tc) : Buf (Elt F) ((c : Thread nD τ).loc b) := Gen.V5 m c b

/-- The contents after phase 1: its arrays at what it leaves, everything else as it was. -/
def X6 (c : Dev nD) : Valuation τ sig (Elt F) :=
  Pipeline.withArrays spec0 c (Gen.V5 m c) fun w => (dat0 (In0 m) c).arrAt w cfg0.N

/-- The contents phase 2 is entered at. -/
abbrev In1 (c : Dev nD) (b : Ref sig .tc) : Buf (Elt F) ((c : Thread nD τ).loc b) := X6 m c b

/-- The contents after phase 2. -/
def X7 (c : Dev nD) : Valuation τ sig (Elt F) :=
  Pipeline.withArrays spec1 c (X6 m c) fun w => (dat1 (In1 m) c).arrAt w cfg1.N

/-- The contents at the phase 2 exit, by reference. -/
abbrev Out1 (c : Dev nD) (b : Ref sig .tc) : Buf (Elt F) ((c : Thread nD τ).loc b) := X7 m c b

/-- The contents at the end of the program. -/
abbrev X8 (c : Dev nD) : Valuation τ sig (Elt F) := StableHlo.after hostOps2 (X7 m c)

/-- An array of phase 1 ends at what its pipeline leaves. -/
theorem X6_arr (c : Dev nD) (w : Fin cfg0.W) :
    X6 m c (Proc.devRef .tc (Pipeline.arrRef spec0 w)) = (dat0 (In0 m) c).arrAt w cfg0.N := by
  unfold X6; exact Pipeline.withArrays_arr spec0 launch0.win.arr_inj c _ _ w

/-- A buffer that is no array of phase 1 keeps its contents. -/
theorem X6_ne (c : Dev nD) (b : Ref sig .tc) (hb : ∀ w, Pipeline.arrRef spec0 w ≠ b) :
    X6 m c (Proc.devRef .tc b) = Gen.V5 m c (Proc.devRef .tc b) := by
  unfold X6; exact Pipeline.withArrays_of_ne spec0 c _ _ b hb

/-- A buffer that is no output array of phase 1 keeps its contents. -/
theorem X6_of (c : Dev nD) (r : Ref sig .tc) (h : ∀ w : Fin cfg0.W, Pipeline.arrRef spec0 w = r → (cfg0.win w).isOut = false) :
    X6 m c (Proc.devRef .tc r) = Gen.V5 m c (Proc.devRef .tc r) := by
  by_cases hw : ∃ w : Fin cfg0.W, Pipeline.arrRef spec0 w = r
  · obtain ⟨w, rfl⟩ := hw
    exact (X6_arr m c w).trans (((dat0 (In0 m) c).arrAt_in w (h w rfl) _).trans (dat0_A (In0 m) c w))
  · exact X6_ne m c r fun w e => hw ⟨w, e⟩

/-- An array of phase 2 ends at what its pipeline leaves. -/
theorem X7_arr (c : Dev nD) (w : Fin cfg1.W) :
    X7 m c (Proc.devRef .tc (Pipeline.arrRef spec1 w)) = (dat1 (In1 m) c).arrAt w cfg1.N := by
  unfold X7; exact Pipeline.withArrays_arr spec1 launch1.win.arr_inj c _ _ w

/-- A buffer that is no array of phase 2 keeps its contents. -/
theorem X7_ne (c : Dev nD) (b : Ref sig .tc) (hb : ∀ w, Pipeline.arrRef spec1 w ≠ b) :
    X7 m c (Proc.devRef .tc b) = X6 m c (Proc.devRef .tc b) := by
  unfold X7; exact Pipeline.withArrays_of_ne spec1 c _ _ b hb

/-- A buffer that is no output array of phase 2 keeps its contents. -/
theorem X7_of (c : Dev nD) (r : Ref sig .tc) (h : ∀ w : Fin cfg1.W, Pipeline.arrRef spec1 w = r → (cfg1.win w).isOut = false) :
    X7 m c (Proc.devRef .tc r) = X6 m c (Proc.devRef .tc r) := by
  by_cases hw : ∃ w : Fin cfg1.W, Pipeline.arrRef spec1 w = r
  · obtain ⟨w, rfl⟩ := hw
    exact (X7_arr m c w).trans (((dat1 (In1 m) c).arrAt_in w (h w rfl) _).trans (dat1_A (In1 m) c w))
  · exact X7_ne m c r fun w e => hw ⟨w, e⟩

/-- The program's arguments. -/
abbrev args : List (Ref sig .tc) := [main_arg0, main_arg1, main_arg2, main_arg3]

/-- Nothing in the program changes an argument. -/
theorem X8_args (c : Dev nD) (a : Ref sig .tc) (ha : a ∈ args) : X8 m c (Proc.devRef .tc a) = m ((c : Thread nD τ).loc a) := by
  have h8 : ∀ a ∈ args, a ∉ hostOps2_W := ListAll.forall_mem_of_all_decide (by decide +kernel)
  have h7 : ∀ a ∈ args, ∀ w : Fin cfg1.W, Pipeline.arrRef spec1 w = a → (cfg1.win w).isOut = false :=
    ListAll.forall_mem_of_all_decide (by decide +kernel)
  have h6 : ∀ a ∈ args, ∀ w : Fin cfg0.W, Pipeline.arrRef spec0 w = a → (cfg0.win w).isOut = false :=
    ListAll.forall_mem_of_all_decide (by decide +kernel)
  have h5 : ∀ a ∈ args, a ∉ hostOps0_4_W := ListAll.forall_mem_of_all_decide (by decide +kernel)
  have h4 : ∀ a ∈ args, a ∉ hostOps0_3_W := ListAll.forall_mem_of_all_decide (by decide +kernel)
  have h3 : ∀ a ∈ args, a ∉ hostOps0_2_W := ListAll.forall_mem_of_all_decide (by decide +kernel)
  have h2 : ∀ a ∈ args, a ∉ hostOps0_1_W := ListAll.forall_mem_of_all_decide (by decide +kernel)
  have h1 : ∀ a ∈ args, a ∉ hostOps0_W := ListAll.forall_mem_of_all_decide (by decide +kernel)
  have e8 : X8 m c (Proc.devRef .tc a) = X7 m c (Proc.devRef .tc a) :=
    StableHlo.after_of_writes_sub hostOps2 _ hostOps2_writes (h8 a ha)
  exact e8.trans ((X7_of m c a (h7 a ha)).trans ((X6_of m c a (h6 a ha)).trans ((Gen.V5_of m c a (h5 a ha)).trans
    ((Gen.V4_of m c a (h4 a ha)).trans ((Gen.V3_of m c a (h3 a ha)).trans ((Gen.V2_of m c a (h2 a ha)).trans
      (Gen.V1_of m c a (h1 a ha))))))))

/-! ## The phases as segments of the run -/

/-- Both pipelines' proof data, each at its entry contents. -/
def pdats : (p : Fin 2) → (c : Dev nD) → Dat τ (Elt F) Unit ℕ (UR sig nD τ) ℕ (Pipeline.pin (pcfgs (F := F)) Gen.adm p) c
  | ⟨0, _⟩ => fun c => dat0 (In0 m) c
  | ⟨1, _⟩ => fun c => dat1 (In1 m) c

/-- No core owes another anything, so no level is assigned. -/
abbrev L : GSem nD τ sig → Finset Unit := fun _ => ∅
/-- Every level is zero. -/
abbrev lv : GSem nD τ sig → Unit → ℕ := fun _ _ => 0

/-- What rides beside the buffers: the generator register at some state, and nothing owed. -/
abbrev Rest (c : Dev nD) : sProp 𝕄 := iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- A buffer that is not scoped is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Phase 1 as a segment: entered with every buffer at the contents before it, left with every buffer at those after it. -/
def phase1 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (In0 m) c).loose
  hwaits := Pipeline.hwaits_of_owed_zero _ _ _ _ L lv 0 fun _ _ => rfl
  pre c := iprop(StableHlo.held (c : Thread nD τ) (Pipeline.ucRefs τ sig) (Gen.V5 m c) ∗ Rest c)
  post c := iprop(StableHlo.held (c : Thread nD τ) (Pipeline.ucRefs τ sig) (X6 m c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) (dat0_A (In0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (In1 m c) ((pdats m 0 c).arrAt · cfg0.N) (fun w => (X6_arr m c w).symm)
      (fun b hb => X6_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Phase 2 as a segment: entered with every buffer at the contents before it, left with every buffer at those after it. -/
def phase2 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (In1 m) c).loose
  hwaits := Pipeline.hwaits_of_owed_zero _ _ _ _ L lv 1 fun _ _ => rfl
  pre c := iprop(StableHlo.held (c : Thread nD τ) (Pipeline.ucRefs τ sig) (X6 m c) ∗ Rest c)
  post c := iprop(StableHlo.held (c : Thread nD τ) (Pipeline.ucRefs τ sig) (X7 m c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) (dat1_A (In1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (fun w => (X7_arr m c w).symm)
      (fun b hb => X7_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segments : List (Pipeline.Seg (pcfgs (F := F)) Gen.adm (pdats m) () defs₀ Variants.none L lv) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .host (hostSeg hostOps0_3 hostOps0_3_sub hostOps0_3_fresh (Gen.V3 m)),
    .host (hostSeg hostOps0_4 hostOps0_4_sub hostOps0_4_fresh (Gen.V4 m)),
    .region (phase1 m),
    .region (phase2 m),
    .host (hostSeg hostOps2 hostOps2_sub hostOps2_fresh (X7 m)) ]

/-- The program is the run of its segments. -/
theorem main_segments (c : Dev nD) : main (F := F) c = Pipeline.Seg.run (segments m) := (main_chain c).trans (by chain_rfl)

/-! ## The launch -/

set_option backward.isDefEq.respectTransparency.types false in
/-- Every execution from memory `m` with zero counters ends, with every buffer the program holds throughout at its final contents and
    every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = X8 m c b) ∧ r.2.sem = fun _ => 0) :=
  Pipeline.θ_run_regions_kit_sems (pcfgs (F := F)) Gen.adm (pdats m) () cellOf_inj emb₁ defs₀ Variants.none L lv m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop(StableHlo.held (c : Thread nD τ) (Pipeline.ucRefs τ sig) (X8 m c) ∗ ∃ r, prngReg c r))
    (hch := ⟨fun _ => .rfl, fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h hz => ⟨h, funext fun g => hz g (.inr (Gen.regions_no_unscoped g.2))⟩)

/-- Every execution ends with the two results at the final contents' values, the arguments as launched, and every semaphore counter at
    zero. -/
theorem run : θ_run defs (onTc (τ := τ) (main (F := F))) ⟨m, fun _ => 0, ρ⟩ (fun r => (∀ c : Dev nD,
      r.2.mem ((c.tc : Thread nD τ).loc main_v22) = X8 m c (Proc.devRef .tc main_v22)
      ∧ r.2.mem ((c.tc : Thread nD τ).loc main_v23) = X8 m c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1 c _ (mem_uc main_v22 (by decide)), h.1 c _ (mem_uc main_v23 (by decide)),
      (h.1 c _ (mem_uc main_arg0 (by decide))).trans (X8_args m c main_arg0 (by decide)),
      (h.1 c _ (mem_uc main_arg1 (by decide))).trans (X8_args m c main_arg1 (by decide)),
      (h.1 c _ (mem_uc main_arg2 (by decide))).trans (X8_args m c main_arg2 (by decide)),
      (h.1 c _ (mem_uc main_arg3 (by decide))).trans (X8_args m c main_arg3 (by decide))⟩, h.2⟩) (run_all m ρ)

/-- The frame: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run m ρ)

end Cert.KernelIdeal.Em

end
-- ==== Proof.ReferenceLine.lean ====
/-
The reference as a line of host operations, cut into stretches: what each stretch computes as one function of the arrays it reads, and
the run of the whole line, which ends with the two results at those functions composed.
-/
module

public import proofs.«01_k».proof.Proof.Gen.ReferenceIdeal
public import Idealize.ShloMosaic.Lib.StableHlo.Run
public import Idealize.ShloMosaic.Lib.StableHlo.RunRead
public import Idealize.ShloMosaic.Lib.Quiescent
public import Idealize.ShloMosaic.Lib.Pipeline.Frame

@[expose] public section

set_option maxRecDepth 8192

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The stretches' functions -/

/-- The pose prior: all zeros. -/
def zeroPose  : (⟨S4x12x12x1x1x1x16x4x4, .f32⟩ : BufTy).Contents (Elt F) :=
  broadcastInDim S4x12x12x1x1x1x16x4x4 ![] bcast_S_S4x12x12x1x1x1x16x4x4 (constant S_ .f32 0x00000000#32)

/-- The first assignment: the softmax, over the output capsules, of zeros. -/
def evenShare  : (⟨S4x12x12x3x3x16x16x1x1, .f32⟩ : BufTy).Contents (Elt F) :=
  Host.divf (Host.exp (subf (broadcastInDim S4x12x12x3x3x16x16x1x1 ![] bcast_S_S4x12x12x3x3x16x16x1x1 (constant S_ .f32 0x00000000#32)) (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8 (maximumf (broadcastInDim S4x12x12x3x3x16x1x1 ![] bcast_S_S4x12x12x3x3x16x1x1 (constant S_ .f32 0xFF800000#32)) (Host.reduce FloatOps.maximumf (broadcastInDim S4x12x12x3x3x16x16x1x1 ![] bcast_S_S4x12x12x3x3x16x16x1x1 (constant S_ .f32 0x00000000#32)) (constant S_ .f32 0xFF800000#32) reducesTo_S4x12x12x3x3x16x16x1x1_S4x12x12x3x3x16x1x1_d6 h_S_)))))) (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8 (Host.reduceAdd (Host.exp (subf (broadcastInDim S4x12x12x3x3x16x16x1x1 ![] bcast_S_S4x12x12x3x3x16x16x1x1 (constant S_ .f32 0x00000000#32)) (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8 (maximumf (broadcastInDim S4x12x12x3x3x16x1x1 ![] bcast_S_S4x12x12x3x3x16x1x1 (constant S_ .f32 0xFF800000#32)) (Host.reduce FloatOps.maximumf (broadcastInDim S4x12x12x3x3x16x16x1x1 ![] bcast_S_S4x12x12x3x3x16x16x1x1 (constant S_ .f32 0x00000000#32)) (constant S_ .f32 0xFF800000#32) reducesTo_S4x12x12x3x3x16x16x1x1_S4x12x12x3x3x16x1x1_d6 h_S_)))))) (constant S_ .f32 0x00000000#32) reducesTo_S4x12x12x3x3x16x16x1x1_S4x12x12x3x3x16x1x1_d6 h_S_)))

/-- An assignment weighted by the activations. -/
def weigh (a : (⟨S4x12x12x3x3x16x1x1x1, .f32⟩ : BufTy).Contents (Elt F)) (r : (⟨S4x12x12x3x3x16x16x1x1, .f32⟩ : BufTy).Contents (Elt F)) : (⟨S4x12x12x3x3x16x16x1x1, .f32⟩ : BufTy).Contents (Elt F) :=
  mulf r (broadcastInDim S4x12x12x3x3x16x16x1x1 ![0, 1, 2, 3, 4, 5, 6, 7, 8] bcast_S4x12x12x3x3x16x1x1x1_S4x12x12x3x3x16x16x1x1_0_1_2_3_4_5_6_7_8 a)

/-- An output capsule's total weight. -/
def total (w : (⟨S4x12x12x3x3x16x16x1x1, .f32⟩ : BufTy).Contents (Elt F)) : (⟨S4x12x12x1x1x1x16x1x1, .f32⟩ : BufTy).Contents (Elt F) :=
  broadcastInDim S4x12x12x1x1x1x16x1x1 ![0, 1, 2, 6, 7, 8] bcast_S4x12x12x16x1x1_S4x12x12x1x1x1x16x1x1_0_1_2_6_7_8 (Host.reduceAdd w (constant S_ .f32 0x00000000#32) reducesTo_S4x12x12x3x3x16x16x1x1_S4x12x12x16x1x1_d3_4_5 h_S_)

/-- An output capsule's weighted mean vote; one times the mean plus zero times the earlier pose. -/
def center (w : (⟨S4x12x12x3x3x16x16x1x1, .f32⟩ : BufTy).Contents (Elt F)) (v : (⟨S4x12x12x3x3x16x16x4x4, .f32⟩ : BufTy).Contents (Elt F)) (s : (⟨S4x12x12x1x1x1x16x1x1, .f32⟩ : BufTy).Contents (Elt F)) (z : (⟨S4x12x12x1x1x1x16x4x4, .f32⟩ : BufTy).Contents (Elt F)) : (⟨S4x12x12x1x1x1x16x4x4, .f32⟩ : BufTy).Contents (Elt F) :=
  addf (mulf (broadcastInDim S4x12x12x1x1x1x16x4x4 ![] bcast_S_S4x12x12x1x1x1x16x4x4 (constant S_ .f32 0x3F800000#32)) (Host.divf (broadcastInDim S4x12x12x1x1x1x16x4x4 ![0, 1, 2, 6, 7, 8] bcast_S4x12x12x16x4x4_S4x12x12x1x1x1x16x4x4_0_1_2_6_7_8 (Host.reduceAdd (mulf (broadcastInDim S4x12x12x3x3x16x16x4x4 ![0, 1, 2, 3, 4, 5, 6, 7, 8] bcast_S4x12x12x3x3x16x16x1x1_S4x12x12x3x3x16x16x4x4_0_1_2_3_4_5_6_7_8 w) v) (constant S_ .f32 0x00000000#32) reducesTo_S4x12x12x3x3x16x16x4x4_S4x12x12x16x4x4_d3_4_5 h_S_)) (broadcastInDim S4x12x12x1x1x1x16x4x4 ![0, 1, 2, 3, 4, 5, 6, 7, 8] bcast_S4x12x12x1x1x1x16x1x1_S4x12x12x1x1x1x16x4x4_0_1_2_3_4_5_6_7_8 (addf s (broadcastInDim S4x12x12x1x1x1x16x1x1 ![] bcast_S_S4x12x12x1x1x1x16x1x1 (constant S_ .f32 0x33D6BF95#32)))))) (mulf (broadcastInDim S4x12x12x1x1x1x16x4x4 ![] bcast_S_S4x12x12x1x1x1x16x4x4 (constant S_ .f32 0x00000000#32)) z)

/-- The weighted variance of the votes about the mean, plus the floor. -/
def spread (μ : (⟨S4x12x12x1x1x1x16x4x4, .f32⟩ : BufTy).Contents (Elt F)) (v : (⟨S4x12x12x3x3x16x16x4x4, .f32⟩ : BufTy).Contents (Elt F)) (w : (⟨S4x12x12x3x3x16x16x1x1, .f32⟩ : BufTy).Contents (Elt F)) (s : (⟨S4x12x12x1x1x1x16x1x1, .f32⟩ : BufTy).Contents (Elt F)) : (⟨S4x12x12x1x1x1x16x4x4, .f32⟩ : BufTy).Contents (Elt F) :=
  addf (Host.divf (broadcastInDim S4x12x12x1x1x1x16x4x4 ![0, 1, 2, 6, 7, 8] bcast_S4x12x12x16x4x4_S4x12x12x1x1x1x16x4x4_0_1_2_6_7_8 (Host.reduceAdd (mulf (broadcastInDim S4x12x12x3x3x16x16x4x4 ![0, 1, 2, 3, 4, 5, 6, 7, 8] bcast_S4x12x12x3x3x16x16x1x1_S4x12x12x3x3x16x16x4x4_0_1_2_3_4_5_6_7_8 w) (mulf (subf v (broadcastInDim S4x12x12x3x3x16x16x4x4 ![0, 1, 2, 3, 4, 5, 6, 7, 8] bcast_S4x12x12x1x1x1x16x4x4_S4x12x12x3x3x16x16x4x4_0_1_2_3_4_5_6_7_8 μ)) (subf v (broadcastInDim S4x12x12x3x3x16x16x4x4 ![0, 1, 2, 3, 4, 5, 6, 7, 8] bcast_S4x12x12x1x1x1x16x4x4_S4x12x12x3x3x16x16x4x4_0_1_2_3_4_5_6_7_8 μ)))) (constant S_ .f32 0x00000000#32) reducesTo_S4x12x12x3x3x16x16x4x4_S4x12x12x16x4x4_d3_4_5 h_S_)) (broadcastInDim S4x12x12x1x1x1x16x4x4 ![0, 1, 2, 3, 4, 5, 6, 7, 8] bcast_S4x12x12x1x1x1x16x1x1_S4x12x12x1x1x1x16x4x4_0_1_2_3_4_5_6_7_8 (addf s (broadcastInDim S4x12x12x1x1x1x16x1x1 ![] bcast_S_S4x12x12x1x1x1x16x1x1 (constant S_ .f32 0x33D6BF95#32))))) (broadcastInDim S4x12x12x1x1x1x16x4x4 ![] bcast_S_S4x12x12x1x1x1x16x4x4 (constant S_ .f32 0x3A03126F#32))

/-- The logarithm of the variance plus the small constant. -/
def logSpread (σ : (⟨S4x12x12x1x1x1x16x4x4, .f32⟩ : BufTy).Contents (Elt F)) : (⟨S4x12x12x1x1x1x16x4x4, .f32⟩ : BufTy).Contents (Elt F) :=
  Host.log (addf σ (broadcastInDim S4x12x12x1x1x1x16x4x4 ![] bcast_S_S4x12x12x1x1x1x16x4x4 (constant S_ .f32 0x33D6BF95#32)))

/-- The temperature times what is left of the activation bias after the cost, the temperature the word `k`. -/
def logit (k : BitVec 32) (l : (⟨S4x12x12x1x1x1x16x4x4, .f32⟩ : BufTy).Contents (Elt F)) (bu : (⟨S1x1x1x1x1x1x16x1x1, .f32⟩ : BufTy).Contents (Elt F)) (s : (⟨S4x12x12x1x1x1x16x1x1, .f32⟩ : BufTy).Contents (Elt F)) (ba : (⟨S1x1x1x1x1x1x16x1x1, .f32⟩ : BufTy).Contents (Elt F)) : (⟨S4x12x12x1x1x1x16x1x1, .f32⟩ : BufTy).Contents (Elt F) :=
  mulf (broadcastInDim S4x12x12x1x1x1x16x1x1 ![] bcast_S_S4x12x12x1x1x1x16x1x1 (constant S_ .f32 k)) (subf (broadcastInDim S4x12x12x1x1x1x16x1x1 ![0, 1, 2, 3, 4, 5, 6, 7, 8] bcast_S1x1x1x1x1x1x16x1x1_S4x12x12x1x1x1x16x1x1_0_1_2_3_4_5_6_7_8 ba) (broadcastInDim S4x12x12x1x1x1x16x1x1 ![0, 1, 2, 3, 4, 5, 6] bcast_S4x12x12x1x1x1x16_S4x12x12x1x1x1x16x1x1_0_1_2_3_4_5_6 (Host.reduceAdd (Host.divf (mulf (subf (broadcastInDim S4x12x12x1x1x1x16x4x4 ![0, 1, 2, 3, 4, 5, 6, 7, 8] bcast_S1x1x1x1x1x1x16x1x1_S4x12x12x1x1x1x16x4x4_0_1_2_3_4_5_6_7_8 bu) (mulf (broadcastInDim S4x12x12x1x1x1x16x4x4 ![] bcast_S_S4x12x12x1x1x1x16x4x4 (constant S_ .f32 0x3F000000#32)) l)) (broadcastInDim S4x12x12x1x1x1x16x4x4 ![0, 1, 2, 3, 4, 5, 6, 7, 8] bcast_S4x12x12x1x1x1x16x1x1_S4x12x12x1x1x1x16x4x4_0_1_2_3_4_5_6_7_8 s)) (broadcastInDim S4x12x12x1x1x1x16x4x4 ![] bcast_S_S4x12x12x1x1x1x16x4x4 (constant S_ .f32 0x3F800000#32))) (constant S_ .f32 0x00000000#32) reducesTo_S4x12x12x1x1x1x16x4x4_S4x12x12x1x1x1x16_d8_7 h_S_)))

/-- One over one plus the exponential of the negation. -/
def squash (t : (⟨S4x12x12x1x1x1x16x1x1, .f32⟩ : BufTy).Contents (Elt F)) : (⟨S4x12x12x1x1x1x16x1x1, .f32⟩ : BufTy).Contents (Elt F) :=
  Host.divf (broadcastInDim S4x12x12x1x1x1x16x1x1 ![] bcast_S_S4x12x12x1x1x1x16x1x1 (constant S_ .f32 0x3F800000#32)) (addf (broadcastInDim S4x12x12x1x1x1x16x1x1 ![] bcast_S_S4x12x12x1x1x1x16x1x1 (constant S_ .f32 0x3F800000#32)) (Host.exp (Host.negf t)))

/-- The logarithm of an output capsule's activation plus a vote's log density under it. -/
def score (σ : (⟨S4x12x12x1x1x1x16x4x4, .f32⟩ : BufTy).Contents (Elt F)) (μ : (⟨S4x12x12x1x1x1x16x4x4, .f32⟩ : BufTy).Contents (Elt F)) (v : (⟨S4x12x12x3x3x16x16x4x4, .f32⟩ : BufTy).Contents (Elt F)) (p : (⟨S4x12x12x1x1x1x16x1x1, .f32⟩ : BufTy).Contents (Elt F)) : (⟨S4x12x12x3x3x16x16x1x1, .f32⟩ : BufTy).Contents (Elt F) :=
  addf (broadcastInDim S4x12x12x3x3x16x16x1x1 ![0, 1, 2, 3, 4, 5, 6, 7, 8] bcast_S4x12x12x1x1x1x16x1x1_S4x12x12x3x3x16x16x1x1_0_1_2_3_4_5_6_7_8 (Host.log p)) (Host.negf (broadcastInDim S4x12x12x3x3x16x16x1x1 ![0, 1, 2, 3, 4, 5, 6] bcast_S4x12x12x3x3x16x16_S4x12x12x3x3x16x16x1x1_0_1_2_3_4_5_6 (Host.reduceAdd (addf (broadcastInDim S4x12x12x3x3x16x16x4x4 ![0, 1, 2, 3, 4, 5, 6, 7, 8] bcast_S4x12x12x1x1x1x16x4x4_S4x12x12x3x3x16x16x4x4_0_1_2_3_4_5_6_7_8 (Host.log (mulf (broadcastInDim S4x12x12x1x1x1x16x4x4 ![] bcast_S_S4x12x12x1x1x1x16x4x4 (constant S_ .f32 0x40C90FDB#32)) σ))) (Host.divf (mulf (subf v (broadcastInDim S4x12x12x3x3x16x16x4x4 ![0, 1, 2, 3, 4, 5, 6, 7, 8] bcast_S4x12x12x1x1x1x16x4x4_S4x12x12x3x3x16x16x4x4_0_1_2_3_4_5_6_7_8 μ)) (subf v (broadcastInDim S4x12x12x3x3x16x16x4x4 ![0, 1, 2, 3, 4, 5, 6, 7, 8] bcast_S4x12x12x1x1x1x16x4x4_S4x12x12x3x3x16x16x4x4_0_1_2_3_4_5_6_7_8 μ))) (broadcastInDim S4x12x12x3x3x16x16x4x4 ![0, 1, 2, 3, 4, 5, 6, 7, 8] bcast_S4x12x12x1x1x1x16x4x4_S4x12x12x3x3x16x16x4x4_0_1_2_3_4_5_6_7_8 (mulf (broadcastInDim S4x12x12x1x1x1x16x4x4 ![] bcast_S_S4x12x12x1x1x1x16x4x4 (constant S_ .f32 0x40000000#32)) σ)))) (constant S_ .f32 0x00000000#32) reducesTo_S4x12x12x3x3x16x16x4x4_S4x12x12x3x3x16x16_d8_7 h_S_)))

/-- The exponentials of the scores less their greatest. -/
def shifted (l : (⟨S4x12x12x3x3x16x16x1x1, .f32⟩ : BufTy).Contents (Elt F)) : (⟨S4x12x12x3x3x16x16x1x1, .f32⟩ : BufTy).Contents (Elt F) :=
  Host.exp (subf l (broadcastInDim S4x12x12x3x3x16x16x1x1 ![] bcast_S_S4x12x12x3x3x16x16x1x1 (Host.reduce FloatOps.maximumf l (constant S_ .f32 0xFF800000#32) reducesTo_S4x12x12x3x3x16x16x1x1_S_d0_1_2_3_4_5_6_7_8 h_S_)))

/-- Each exponential over its total across the window and the output capsules, plus the small constant. -/
def shares (e : (⟨S4x12x12x3x3x16x16x1x1, .f32⟩ : BufTy).Contents (Elt F)) : (⟨S4x12x12x3x3x16x16x1x1, .f32⟩ : BufTy).Contents (Elt F) :=
  Host.divf e (broadcastInDim S4x12x12x3x3x16x16x1x1 ![0, 1, 2, 3, 4, 5, 6, 7, 8] bcast_S4x12x12x1x1x16x1x1x1_S4x12x12x3x3x16x16x1x1_0_1_2_3_4_5_6_7_8 (addf (broadcastInDim S4x12x12x1x1x16x1x1x1 ![0, 1, 2, 5, 7, 8] bcast_S4x12x12x16x1x1_S4x12x12x1x1x16x1x1x1_0_1_2_5_7_8 (Host.reduceAdd e (constant S_ .f32 0x00000000#32) reducesTo_S4x12x12x3x3x16x16x1x1_S4x12x12x16x1x1_d3_4_6 h_S_)) (broadcastInDim S4x12x12x1x1x16x1x1x1 ![] bcast_S_S4x12x12x1x1x16x1x1x1 (constant S_ .f32 0x33D6BF95#32))))

/-! ## The line -/

/-- Stretch 1, ending with `main_v12`. -/
def s1 : List (HloOp τ sig (Elt F)) :=
  [ nullary main_cst (constant S_ .f32 0x00000000#32),
    unary main_cst main_v0 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    nullary main_cst_0 (constant S_ .f32 0x00000000#32),
    unary main_cst_0 main_v1 (broadcastInDim S4x12x12x3x3x16x16x1x1 ![] bcast_S_S4x12x12x3x3x16x16x1x1 : (⟨S_, .f32⟩ : BufTy).Contents (Elt F) → (⟨S4x12x12x3x3x16x16x1x1, .f32⟩ : BufTy).Contents (Elt F)),
    nullary main_cst_1 (constant S_ .f32 0xFF800000#32),
    binary main_v1 main_cst_1 main_v2 ((fun x v => Host.reduce FloatOps.maximumf x v reducesTo_S4x12x12x3x3x16x16x1x1_S4x12x12x3x3x16x1x1_d6 h_S_) : (⟨S4x12x12x3x3x16x16x1x1, .f32⟩ : BufTy).Contents (Elt F) → (⟨S_, .f32⟩ : BufTy).Contents (Elt F) → (⟨S4x12x12x3x3x16x1x1, .f32⟩ : BufTy).Contents (Elt F)),
    nullary main_cst_2 (constant S_ .f32 0xFF800000#32),
    unary main_cst_2 main_v3 (broadcastInDim S4x12x12x3x3x16x1x1 ![] bcast_S_S4x12x12x3x3x16x1x1 : (⟨S_, .f32⟩ : BufTy).Contents (Elt F) → (⟨S4x12x12x3x3x16x1x1, .f32⟩ : BufTy).Contents (Elt F)),
    binary main_v3 main_v2 main_v4 (maximumf : (⟨S4x12x12x3x3x16x1x1, .f32⟩ : BufTy).Contents (Elt F) → (⟨S4x12x12x3x3x16x1x1, .f32⟩ : BufTy).Contents (Elt F) → (⟨S4x12x12x3x3x16x1x1, .f32⟩ : BufTy).Contents (Elt F)),
    unary main_v4 main_v5 (broadcastInDim S4x12x12x3x3x16x1x1x1 ![0, 1, 2, 3, 4, 5, 7, 8] bcast_S4x12x12x3x3x16x1x1_S4x12x12x3x3x16x1x1x1_0_1_2_3_4_5_7_8 : (⟨S4x12x12x3x3x16x1x1, .f32⟩ : BufTy).Contents (Elt F) → (⟨S4x12x12x3x3x16x1x1x1, .f32⟩ : BufTy).Contents (Elt F)),
    unary main_v5 main_v6 (broadcastInDim S4x12x12x3x3x16x16x1x1 ![0, 1, 2, 3, 4, 5, 6, 7, 8] bcast_S4x12x12x3x3x16x1x1x1_S4x12x12x3x3x16x16x1x1_0_1_2_3_4_5_6_7_8 : (⟨S4x12x12x3x3x16x1x1x1, .f32⟩ : BufTy).Contents (Elt F) → (⟨S4x12x12x3x3x16x16x1x1, .f32⟩ : BufTy).Contents (Elt F)),
    binary main_v1 main_v6 main_v7 (subf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)),
    unary main_v7 main_v8 (Host.exp : (⟨S4x12x12x3x3x16x16x1x1, .f32⟩ : BufTy).Contents (Elt F) → (⟨S4x12x12x3x3x16x16x1x1, .f32⟩ : BufTy).Contents (Elt F)),
    nullary main_cst_3 (constant S_ .f32 0x00000000#32),
    binary main_v8 main_cst_3 main_v9 ((fun x v => Host.reduceAdd x v reducesTo_S4x12x12x3x3x16x16x1x1_S4x12x12x3x3x16x1x1_d6 h_S_) : (⟨S4x12x12x3x3x16x16x1x1, .f32⟩ : BufTy).Contents (Elt F) → (⟨S_, .f32⟩ : BufTy).Contents (Elt F) → (⟨S4x12x12x3x3x16x1x1, .f32⟩ : BufTy).Contents (Elt F)),
    unary main_v9 main_v10 (broadcastInDim S4x12x12x3x3x16x1x1x1 ![0, 1, 2, 3, 4, 5, 7, 8] bcast_S4x12x12x3x3x16x1x1_S4x12x12x3x3x16x1x1x1_0_1_2_3_4_5_7_8 : (⟨S4x12x12x3x3x16x1x1, .f32⟩ : BufTy).Contents (Elt F) → (⟨S4x12x12x3x3x16x1x1x1, .f32⟩ : BufTy).Contents (Elt F)),
    unary main_v10 main_v11 (broadcastInDim S4x12x12x3x3x16x16x1x1 ![0, 1, 2, 3, 4, 5, 6, 7, 8] bcast_S4x12x12x3x3x16x1x1x1_S4x12x12x3x3x16x16x1x1_0_1_2_3_4_5_6_7_8 : (⟨S4x12x12x3x3x16x1x1x1, .f32⟩ : BufTy).Contents (Elt F) → (⟨S4x12x12x3x3x16x16x1x1, .f32⟩ : BufTy).Contents (Elt F)),
    binary main_v8 main_v11 main_v12 (Host.divf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)) ]
/-- What stretch 1 writes. -/
abbrev w1 : List (Ref sig .tc) := [main_cst, main_v0, main_cst_0, main_v1, main_cst_1, main_v2, main_cst_2, main_v3, main_v4, main_v5, main_v6, main_v7, main_v8, main_cst_3, main_v9, main_v10, main_v11, main_v12]

/-- Stretch 2, ending with `main_v14`. -/
def s2 : List (HloOp τ sig (Elt F)) :=
  [ unary main_arg1 main_v13 (broadcastInDim S4x12x12x3x3x16x16x1x1 ![0, 1, 2, 3, 4, 5, 6, 7, 8] bcast_S4x12x12x3x3x16x1x1x1_S4x12x12x3x3x16x16x1x1_0_1_2_3_4_5_6_7_8 : (⟨S4x12x12x3x3x16x1x1x1, .f32⟩ : BufTy).Contents (Elt F) → (⟨S4x12x12x3x3x16x16x1x1, .f32⟩ : BufTy).Contents (Elt F)),
    binary main_v12 main_v13 main_v14 (mulf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)) ]
/-- What stretch 2 writes. -/
abbrev w2 : List (Ref sig .tc) := [main_v13, main_v14]

/-- Stretch 3, ending with `main_v16`. -/
def s3 : List (HloOp τ sig (Elt F)) :=
  [ nullary main_cst_4 (constant S_ .f32 0x00000000#32),
    binary main_v14 main_cst_4 main_v15 ((fun x v => Host.reduceAdd x v reducesTo_S4x12x12x3x3x16x16x1x1_S4x12x12x16x1x1_d3_4_5 h_S_) : (⟨S4x12x12x3x3x16x16x1x1, .f32⟩ : BufTy).Contents (Elt F) → (⟨S_, .f32⟩ : BufTy).Contents (Elt F) → (⟨S4x12x12x16x1x1, .f32⟩ : BufTy).Contents (Elt F)),
    unary main_v15 main_v16 (broadcastInDim S4x12x12x1x1x1x16x1x1 ![0, 1, 2, 6, 7, 8] bcast_S4x12x12x16x1x1_S4x12x12x1x1x1x16x1x1_0_1_2_6_7_8 : (⟨S4x12x12x16x1x1, .f32⟩ : BufTy).Contents (Elt F) → (⟨S4x12x12x1x1x1x16x1x1, .f32⟩ : BufTy).Contents (Elt F)) ]
/-- What stretch 3 writes. -/
abbrev w3 : List (Ref sig .tc) := [main_cst_4, main_v15, main_v16]

/-- Stretch 4, ending with `main_v29`. -/
def s4 : List (HloOp τ sig (Elt F)) :=
  [ unary main_v14 main_v17 (broadcastInDim S4x12x12x3x3x16x16x4x4 ![0, 1, 2, 3, 4, 5, 6, 7, 8] bcast_S4x12x12x3x3x16x16x1x1_S4x12x12x3x3x16x16x4x4_0_1_2_3_4_5_6_7_8 : (⟨S4x12x12x3x3x16x16x1x1, .f32⟩ : BufTy).Contents (Elt F) → (⟨S4x12x12x3x3x16x16x4x4, .f32⟩ : BufTy).Contents (Elt F)),
    binary main_v17 main_arg0 main_v18 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_5 (constant S_ .f32 0x00000000#32),
    binary main_v18 main_cst_5 main_v19 ((fun x v => Host.reduceAdd x v reducesTo_S4x12x12x3x3x16x16x4x4_S4x12x12x16x4x4_d3_4_5 h_S_) : (⟨S4x12x12x3x3x16x16x4x4, .f32⟩ : BufTy).Contents (Elt F) → (⟨S_, .f32⟩ : BufTy).Contents (Elt F) → (⟨S4x12x12x16x4x4, .f32⟩ : BufTy).Contents (Elt F)),
    unary main_v19 main_v20 (broadcastInDim S4x12x12x1x1x1x16x4x4 ![0, 1, 2, 6, 7, 8] bcast_S4x12x12x16x4x4_S4x12x12x1x1x1x16x4x4_0_1_2_6_7_8 : (⟨S4x12x12x16x4x4, .f32⟩ : BufTy).Contents (Elt F) → (⟨S4x12x12x1x1x1x16x4x4, .f32⟩ : BufTy).Contents (Elt F)),
    nullary main_cst_6 (constant S_ .f32 0x33D6BF95#32),
    unary main_cst_6 main_v21 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v16 main_v21 main_v22 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    unary main_v22 main_v23 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v20 main_v23 main_v24 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_7 (constant S_ .f32 0x3F800000#32),
    unary main_cst_7 main_v25 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v25 main_v24 main_v26 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_8 (constant S_ .f32 0x00000000#32),
    unary main_cst_8 main_v27 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v27 main_v0 main_v28 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    binary main_v26 main_v28 main_v29 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)) ]
/-- What stretch 4 writes. -/
abbrev w4 : List (Ref sig .tc) := [main_v17, main_v18, main_cst_5, main_v19, main_v20, main_cst_6, main_v21, main_v22, main_v23, main_v24, main_cst_7, main_v25, main_v26, main_cst_8, main_v27, main_v28, main_v29]

/-- Stretch 5, ending with `main_v42`. -/
def s5 : List (HloOp τ sig (Elt F)) :=
  [ unary main_v29 main_v30 (broadcastInDim S4x12x12x3x3x16x16x4x4 ![0, 1, 2, 3, 4, 5, 6, 7, 8] bcast_S4x12x12x1x1x1x16x4x4_S4x12x12x3x3x16x16x4x4_0_1_2_3_4_5_6_7_8 : (⟨S4x12x12x1x1x1x16x4x4, .f32⟩ : BufTy).Contents (Elt F) → (⟨S4x12x12x3x3x16x16x4x4, .f32⟩ : BufTy).Contents (Elt F)),
    binary main_arg0 main_v30 main_v31 (subf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    binary main_v31 main_v31 main_v32 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    unary main_v14 main_v33 (broadcastInDim S4x12x12x3x3x16x16x4x4 ![0, 1, 2, 3, 4, 5, 6, 7, 8] bcast_S4x12x12x3x3x16x16x1x1_S4x12x12x3x3x16x16x4x4_0_1_2_3_4_5_6_7_8 : (⟨S4x12x12x3x3x16x16x1x1, .f32⟩ : BufTy).Contents (Elt F) → (⟨S4x12x12x3x3x16x16x4x4, .f32⟩ : BufTy).Contents (Elt F)),
    binary main_v33 main_v32 main_v34 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_9 (constant S_ .f32 0x00000000#32),
    binary main_v34 main_cst_9 main_v35 ((fun x v => Host.reduceAdd x v reducesTo_S4x12x12x3x3x16x16x4x4_S4x12x12x16x4x4_d3_4_5 h_S_) : (⟨S4x12x12x3x3x16x16x4x4, .f32⟩ : BufTy).Contents (Elt F) → (⟨S_, .f32⟩ : BufTy).Contents (Elt F) → (⟨S4x12x12x16x4x4, .f32⟩ : BufTy).Contents (Elt F)),
    unary main_v35 main_v36 (broadcastInDim S4x12x12x1x1x1x16x4x4 ![0, 1, 2, 6, 7, 8] bcast_S4x12x12x16x4x4_S4x12x12x1x1x1x16x4x4_0_1_2_6_7_8 : (⟨S4x12x12x16x4x4, .f32⟩ : BufTy).Contents (Elt F) → (⟨S4x12x12x1x1x1x16x4x4, .f32⟩ : BufTy).Contents (Elt F)),
    nullary main_cst_10 (constant S_ .f32 0x33D6BF95#32),
    unary main_cst_10 main_v37 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v16 main_v37 main_v38 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    unary main_v38 main_v39 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v36 main_v39 main_v40 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_11 (constant S_ .f32 0x3A03126F#32),
    unary main_cst_11 main_v41 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v40 main_v41 main_v42 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)) ]
/-- What stretch 5 writes. -/
abbrev w5 : List (Ref sig .tc) := [main_v30, main_v31, main_v32, main_v33, main_v34, main_cst_9, main_v35, main_v36, main_cst_10, main_v37, main_v38, main_v39, main_v40, main_cst_11, main_v41, main_v42]

/-- Stretch 6, ending with `main_v45`. -/
def s6 : List (HloOp τ sig (Elt F)) :=
  [ nullary main_cst_12 (constant S_ .f32 0x33D6BF95#32),
    unary main_cst_12 main_v43 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v42 main_v43 main_v44 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v44 main_v45 (Host.log : (⟨S4x12x12x1x1x1x16x4x4, .f32⟩ : BufTy).Contents (Elt F) → (⟨S4x12x12x1x1x1x16x4x4, .f32⟩ : BufTy).Contents (Elt F)) ]
/-- What stretch 6 writes. -/
abbrev w6 : List (Ref sig .tc) := [main_cst_12, main_v43, main_v44, main_v45]

/-- Stretch 7, ending with `main_v59`. -/
def s7 : List (HloOp τ sig (Elt F)) :=
  [ nullary main_cst_13 (constant S_ .f32 0x3F000000#32),
    unary main_cst_13 main_v46 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v46 main_v45 main_v47 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_arg3 main_v48 (broadcastInDim S4x12x12x1x1x1x16x4x4 ![0, 1, 2, 3, 4, 5, 6, 7, 8] bcast_S1x1x1x1x1x1x16x1x1_S4x12x12x1x1x1x16x4x4_0_1_2_3_4_5_6_7_8 : (⟨S1x1x1x1x1x1x16x1x1, .f32⟩ : BufTy).Contents (Elt F) → (⟨S4x12x12x1x1x1x16x4x4, .f32⟩ : BufTy).Contents (Elt F)),
    binary main_v48 main_v47 main_v49 (subf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v16 main_v50 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v49 main_v50 main_v51 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_14 (constant S_ .f32 0x3F800000#32),
    unary main_cst_14 main_v52 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v51 main_v52 main_v53 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_15 (constant S_ .f32 0x00000000#32),
    binary main_v53 main_cst_15 main_v54 ((fun x v => Host.reduceAdd x v reducesTo_S4x12x12x1x1x1x16x4x4_S4x12x12x1x1x1x16_d8_7 h_S_) : (⟨S4x12x12x1x1x1x16x4x4, .f32⟩ : BufTy).Contents (Elt F) → (⟨S_, .f32⟩ : BufTy).Contents (Elt F) → (⟨S4x12x12x1x1x1x16, .f32⟩ : BufTy).Contents (Elt F)),
    unary main_v54 main_v55 (broadcastInDim S4x12x12x1x1x1x16x1x1 ![0, 1, 2, 3, 4, 5, 6] bcast_S4x12x12x1x1x1x16_S4x12x12x1x1x1x16x1x1_0_1_2_3_4_5_6 : (⟨S4x12x12x1x1x1x16, .f32⟩ : BufTy).Contents (Elt F) → (⟨S4x12x12x1x1x1x16x1x1, .f32⟩ : BufTy).Contents (Elt F)),
    unary main_arg2 main_v56 (broadcastInDim S4x12x12x1x1x1x16x1x1 ![0, 1, 2, 3, 4, 5, 6, 7, 8] bcast_S1x1x1x1x1x1x16x1x1_S4x12x12x1x1x1x16x1x1_0_1_2_3_4_5_6_7_8 : (⟨S1x1x1x1x1x1x16x1x1, .f32⟩ : BufTy).Contents (Elt F) → (⟨S4x12x12x1x1x1x16x1x1, .f32⟩ : BufTy).Contents (Elt F)),
    binary main_v56 main_v55 main_v57 (subf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    nullary main_cst_16 (constant S_ .f32 0x3A03126F#32),
    unary main_cst_16 main_v58 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v58 main_v57 main_v59 (mulf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)) ]
/-- What stretch 7 writes. -/
abbrev w7 : List (Ref sig .tc) := [main_cst_13, main_v46, main_v47, main_v48, main_v49, main_v50, main_v51, main_cst_14, main_v52, main_v53, main_cst_15, main_v54, main_v55, main_v56, main_v57, main_cst_16, main_v58, main_v59]

/-- Stretch 8, ending with `main_v65`. -/
def s8 : List (HloOp τ sig (Elt F)) :=
  [ unary main_v59 main_v60 (Host.negf : (⟨S4x12x12x1x1x1x16x1x1, .f32⟩ : BufTy).Contents (Elt F) → (⟨S4x12x12x1x1x1x16x1x1, .f32⟩ : BufTy).Contents (Elt F)),
    unary main_v60 main_v61 (Host.exp : (⟨S4x12x12x1x1x1x16x1x1, .f32⟩ : BufTy).Contents (Elt F) → (⟨S4x12x12x1x1x1x16x1x1, .f32⟩ : BufTy).Contents (Elt F)),
    nullary main_cst_17 (constant S_ .f32 0x3F800000#32),
    unary main_cst_17 main_v62 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v62 main_v61 main_v63 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    nullary main_cst_18 (constant S_ .f32 0x3F800000#32),
    unary main_cst_18 main_v64 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v64 main_v63 main_v65 (Host.divf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)) ]
/-- What stretch 8 writes. -/
abbrev w8 : List (Ref sig .tc) := [main_v60, main_v61, main_cst_17, main_v62, main_v63, main_cst_18, main_v64, main_v65]

/-- Stretch 9, ending with `main_v83`. -/
def s9 : List (HloOp τ sig (Elt F)) :=
  [ nullary main_cst_19 (constant S_ .f32 0x40C90FDB#32),
    unary main_cst_19 main_v66 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v66 main_v42 main_v67 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v67 main_v68 (Host.log : (⟨S4x12x12x1x1x1x16x4x4, .f32⟩ : BufTy).Contents (Elt F) → (⟨S4x12x12x1x1x1x16x4x4, .f32⟩ : BufTy).Contents (Elt F)),
    unary main_v29 main_v69 (broadcastInDim S4x12x12x3x3x16x16x4x4 ![0, 1, 2, 3, 4, 5, 6, 7, 8] bcast_S4x12x12x1x1x1x16x4x4_S4x12x12x3x3x16x16x4x4_0_1_2_3_4_5_6_7_8 : (⟨S4x12x12x1x1x1x16x4x4, .f32⟩ : BufTy).Contents (Elt F) → (⟨S4x12x12x3x3x16x16x4x4, .f32⟩ : BufTy).Contents (Elt F)),
    binary main_arg0 main_v69 main_v70 (subf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    binary main_v70 main_v70 main_v71 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_20 (constant S_ .f32 0x40000000#32),
    unary main_cst_20 main_v72 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v72 main_v42 main_v73 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v73 main_v74 (broadcastInDim S4x12x12x3x3x16x16x4x4 ![0, 1, 2, 3, 4, 5, 6, 7, 8] bcast_S4x12x12x1x1x1x16x4x4_S4x12x12x3x3x16x16x4x4_0_1_2_3_4_5_6_7_8 : (⟨S4x12x12x1x1x1x16x4x4, .f32⟩ : BufTy).Contents (Elt F) → (⟨S4x12x12x3x3x16x16x4x4, .f32⟩ : BufTy).Contents (Elt F)),
    binary main_v71 main_v74 main_v75 (Host.divf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    unary main_v68 main_v76 (broadcastInDim S4x12x12x3x3x16x16x4x4 ![0, 1, 2, 3, 4, 5, 6, 7, 8] bcast_S4x12x12x1x1x1x16x4x4_S4x12x12x3x3x16x16x4x4_0_1_2_3_4_5_6_7_8 : (⟨S4x12x12x1x1x1x16x4x4, .f32⟩ : BufTy).Contents (Elt F) → (⟨S4x12x12x3x3x16x16x4x4, .f32⟩ : BufTy).Contents (Elt F)),
    binary main_v76 main_v75 main_v77 (addf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_21 (constant S_ .f32 0x00000000#32),
    binary main_v77 main_cst_21 main_v78 ((fun x v => Host.reduceAdd x v reducesTo_S4x12x12x3x3x16x16x4x4_S4x12x12x3x3x16x16_d8_7 h_S_) : (⟨S4x12x12x3x3x16x16x4x4, .f32⟩ : BufTy).Contents (Elt F) → (⟨S_, .f32⟩ : BufTy).Contents (Elt F) → (⟨S4x12x12x3x3x16x16, .f32⟩ : BufTy).Contents (Elt F)),
    unary main_v78 main_v79 (broadcastInDim S4x12x12x3x3x16x16x1x1 ![0, 1, 2, 3, 4, 5, 6] bcast_S4x12x12x3x3x16x16_S4x12x12x3x3x16x16x1x1_0_1_2_3_4_5_6 : (⟨S4x12x12x3x3x16x16, .f32⟩ : BufTy).Contents (Elt F) → (⟨S4x12x12x3x3x16x16x1x1, .f32⟩ : BufTy).Contents (Elt F)),
    unary main_v79 main_v80 (Host.negf : (⟨S4x12x12x3x3x16x16x1x1, .f32⟩ : BufTy).Contents (Elt F) → (⟨S4x12x12x3x3x16x16x1x1, .f32⟩ : BufTy).Contents (Elt F)),
    unary main_v65 main_v81 (Host.log : (⟨S4x12x12x1x1x1x16x1x1, .f32⟩ : BufTy).Contents (Elt F) → (⟨S4x12x12x1x1x1x16x1x1, .f32⟩ : BufTy).Contents (Elt F)),
    unary main_v81 main_v82 (broadcastInDim S4x12x12x3x3x16x16x1x1 ![0, 1, 2, 3, 4, 5, 6, 7, 8] bcast_S4x12x12x1x1x1x16x1x1_S4x12x12x3x3x16x16x1x1_0_1_2_3_4_5_6_7_8 : (⟨S4x12x12x1x1x1x16x1x1, .f32⟩ : BufTy).Contents (Elt F) → (⟨S4x12x12x3x3x16x16x1x1, .f32⟩ : BufTy).Contents (Elt F)),
    binary main_v82 main_v80 main_v83 (addf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)) ]
/-- What stretch 9 writes. -/
abbrev w9 : List (Ref sig .tc) := [main_cst_19, main_v66, main_v67, main_v68, main_v69, main_v70, main_v71, main_cst_20, main_v72, main_v73, main_v74, main_v75, main_v76, main_v77, main_cst_21, main_v78, main_v79, main_v80, main_v81, main_v82, main_v83]

/-- Stretch 10, ending with `main_v87`. -/
def s10 : List (HloOp τ sig (Elt F)) :=
  [ nullary main_cst_22 (constant S_ .f32 0xFF800000#32),
    binary main_v83 main_cst_22 main_v84 ((fun x v => Host.reduce FloatOps.maximumf x v reducesTo_S4x12x12x3x3x16x16x1x1_S_d0_1_2_3_4_5_6_7_8 h_S_) : (⟨S4x12x12x3x3x16x16x1x1, .f32⟩ : BufTy).Contents (Elt F) → (⟨S_, .f32⟩ : BufTy).Contents (Elt F) → (⟨S_, .f32⟩ : BufTy).Contents (Elt F)),
    unary main_v84 main_v85 (broadcastInDim S4x12x12x3x3x16x16x1x1 ![] bcast_S_S4x12x12x3x3x16x16x1x1 : (⟨S_, .f32⟩ : BufTy).Contents (Elt F) → (⟨S4x12x12x3x3x16x16x1x1, .f32⟩ : BufTy).Contents (Elt F)),
    binary main_v83 main_v85 main_v86 (subf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)),
    unary main_v86 main_v87 (Host.exp : (⟨S4x12x12x3x3x16x16x1x1, .f32⟩ : BufTy).Contents (Elt F) → (⟨S4x12x12x3x3x16x16x1x1, .f32⟩ : BufTy).Contents (Elt F)) ]
/-- What stretch 10 writes. -/
abbrev w10 : List (Ref sig .tc) := [main_cst_22, main_v84, main_v85, main_v86, main_v87]

/-- Stretch 11, ending with `main_v93`. -/
def s11 : List (HloOp τ sig (Elt F)) :=
  [ nullary main_cst_23 (constant S_ .f32 0x00000000#32),
    binary main_v87 main_cst_23 main_v88 ((fun x v => Host.reduceAdd x v reducesTo_S4x12x12x3x3x16x16x1x1_S4x12x12x16x1x1_d3_4_6 h_S_) : (⟨S4x12x12x3x3x16x16x1x1, .f32⟩ : BufTy).Contents (Elt F) → (⟨S_, .f32⟩ : BufTy).Contents (Elt F) → (⟨S4x12x12x16x1x1, .f32⟩ : BufTy).Contents (Elt F)),
    unary main_v88 main_v89 (broadcastInDim S4x12x12x1x1x16x1x1x1 ![0, 1, 2, 5, 7, 8] bcast_S4x12x12x16x1x1_S4x12x12x1x1x16x1x1x1_0_1_2_5_7_8 : (⟨S4x12x12x16x1x1, .f32⟩ : BufTy).Contents (Elt F) → (⟨S4x12x12x1x1x16x1x1x1, .f32⟩ : BufTy).Contents (Elt F)),
    nullary main_cst_24 (constant S_ .f32 0x33D6BF95#32),
    unary main_cst_24 main_v90 (broadcastInDim S4x12x12x1x1x16x1x1x1 ![] bcast_S_S4x12x12x1x1x16x1x1x1 : (⟨S_, .f32⟩ : BufTy).Contents (Elt F) → (⟨S4x12x12x1x1x16x1x1x1, .f32⟩ : BufTy).Contents (Elt F)),
    binary main_v89 main_v90 main_v91 (addf : (⟨S4x12x12x1x1x16x1x1x1, .f32⟩ : BufTy).Contents (Elt F) → (⟨S4x12x12x1x1x16x1x1x1, .f32⟩ : BufTy).Contents (Elt F) → (⟨S4x12x12x1x1x16x1x1x1, .f32⟩ : BufTy).Contents (Elt F)),
    unary main_v91 main_v92 (broadcastInDim S4x12x12x3x3x16x16x1x1 ![0, 1, 2, 3, 4, 5, 6, 7, 8] bcast_S4x12x12x1x1x16x1x1x1_S4x12x12x3x3x16x16x1x1_0_1_2_3_4_5_6_7_8 : (⟨S4x12x12x1x1x16x1x1x1, .f32⟩ : BufTy).Contents (Elt F) → (⟨S4x12x12x3x3x16x16x1x1, .f32⟩ : BufTy).Contents (Elt F)),
    binary main_v87 main_v92 main_v93 (Host.divf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)) ]
/-- What stretch 11 writes. -/
abbrev w11 : List (Ref sig .tc) := [main_cst_23, main_v88, main_v89, main_cst_24, main_v90, main_v91, main_v92, main_v93]

/-- Stretch 12, ending with `main_v95`. -/
def s12 : List (HloOp τ sig (Elt F)) :=
  [ unary main_arg1 main_v94 (broadcastInDim S4x12x12x3x3x16x16x1x1 ![0, 1, 2, 3, 4, 5, 6, 7, 8] bcast_S4x12x12x3x3x16x1x1x1_S4x12x12x3x3x16x16x1x1_0_1_2_3_4_5_6_7_8 : (⟨S4x12x12x3x3x16x1x1x1, .f32⟩ : BufTy).Contents (Elt F) → (⟨S4x12x12x3x3x16x16x1x1, .f32⟩ : BufTy).Contents (Elt F)),
    binary main_v93 main_v94 main_v95 (mulf : (⟨S4x12x12x3x3x16x16x1x1, .f32⟩ : BufTy).Contents (Elt F) → (⟨S4x12x12x3x3x16x16x1x1, .f32⟩ : BufTy).Contents (Elt F) → (⟨S4x12x12x3x3x16x16x1x1, .f32⟩ : BufTy).Contents (Elt F)) ]
/-- What stretch 12 writes. -/
abbrev w12 : List (Ref sig .tc) := [main_v94, main_v95]

/-- Stretch 13, ending with `main_v97`. -/
def s13 : List (HloOp τ sig (Elt F)) :=
  [ nullary main_cst_25 (constant S_ .f32 0x00000000#32),
    binary main_v95 main_cst_25 main_v96 ((fun x v => Host.reduceAdd x v reducesTo_S4x12x12x3x3x16x16x1x1_S4x12x12x16x1x1_d3_4_5 h_S_) : (⟨S4x12x12x3x3x16x16x1x1, .f32⟩ : BufTy).Contents (Elt F) → (⟨S_, .f32⟩ : BufTy).Contents (Elt F) → (⟨S4x12x12x16x1x1, .f32⟩ : BufTy).Contents (Elt F)),
    unary main_v96 main_v97 (broadcastInDim S4x12x12x1x1x1x16x1x1 ![0, 1, 2, 6, 7, 8] bcast_S4x12x12x16x1x1_S4x12x12x1x1x1x16x1x1_0_1_2_6_7_8 : (⟨S4x12x12x16x1x1, .f32⟩ : BufTy).Contents (Elt F) → (⟨S4x12x12x1x1x1x16x1x1, .f32⟩ : BufTy).Contents (Elt F)) ]
/-- What stretch 13 writes. -/
abbrev w13 : List (Ref sig .tc) := [main_cst_25, main_v96, main_v97]

/-- Stretch 14, ending with `main_v110`. -/
def s14 : List (HloOp τ sig (Elt F)) :=
  [ unary main_v95 main_v98 (broadcastInDim S4x12x12x3x3x16x16x4x4 ![0, 1, 2, 3, 4, 5, 6, 7, 8] bcast_S4x12x12x3x3x16x16x1x1_S4x12x12x3x3x16x16x4x4_0_1_2_3_4_5_6_7_8 : (⟨S4x12x12x3x3x16x16x1x1, .f32⟩ : BufTy).Contents (Elt F) → (⟨S4x12x12x3x3x16x16x4x4, .f32⟩ : BufTy).Contents (Elt F)),
    binary main_v98 main_arg0 main_v99 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_26 (constant S_ .f32 0x00000000#32),
    binary main_v99 main_cst_26 main_v100 ((fun x v => Host.reduceAdd x v reducesTo_S4x12x12x3x3x16x16x4x4_S4x12x12x16x4x4_d3_4_5 h_S_) : (⟨S4x12x12x3x3x16x16x4x4, .f32⟩ : BufTy).Contents (Elt F) → (⟨S_, .f32⟩ : BufTy).Contents (Elt F) → (⟨S4x12x12x16x4x4, .f32⟩ : BufTy).Contents (Elt F)),
    unary main_v100 main_v101 (broadcastInDim S4x12x12x1x1x1x16x4x4 ![0, 1, 2, 6, 7, 8] bcast_S4x12x12x16x4x4_S4x12x12x1x1x1x16x4x4_0_1_2_6_7_8 : (⟨S4x12x12x16x4x4, .f32⟩ : BufTy).Contents (Elt F) → (⟨S4x12x12x1x1x1x16x4x4, .f32⟩ : BufTy).Contents (Elt F)),
    nullary main_cst_27 (constant S_ .f32 0x33D6BF95#32),
    unary main_cst_27 main_v102 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v97 main_v102 main_v103 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    unary main_v103 main_v104 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v101 main_v104 main_v105 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_28 (constant S_ .f32 0x3F800000#32),
    unary main_cst_28 main_v106 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v106 main_v105 main_v107 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_29 (constant S_ .f32 0x00000000#32),
    unary main_cst_29 main_v108 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v108 main_v29 main_v109 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    binary main_v107 main_v109 main_v110 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)) ]
/-- What stretch 14 writes. -/
abbrev w14 : List (Ref sig .tc) := [main_v98, main_v99, main_cst_26, main_v100, main_v101, main_cst_27, main_v102, main_v103, main_v104, main_v105, main_cst_28, main_v106, main_v107, main_cst_29, main_v108, main_v109, main_v110]

/-- Stretch 15, ending with `main_v123`. -/
def s15 : List (HloOp τ sig (Elt F)) :=
  [ unary main_v110 main_v111 (broadcastInDim S4x12x12x3x3x16x16x4x4 ![0, 1, 2, 3, 4, 5, 6, 7, 8] bcast_S4x12x12x1x1x1x16x4x4_S4x12x12x3x3x16x16x4x4_0_1_2_3_4_5_6_7_8 : (⟨S4x12x12x1x1x1x16x4x4, .f32⟩ : BufTy).Contents (Elt F) → (⟨S4x12x12x3x3x16x16x4x4, .f32⟩ : BufTy).Contents (Elt F)),
    binary main_arg0 main_v111 main_v112 (subf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    binary main_v112 main_v112 main_v113 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    unary main_v95 main_v114 (broadcastInDim S4x12x12x3x3x16x16x4x4 ![0, 1, 2, 3, 4, 5, 6, 7, 8] bcast_S4x12x12x3x3x16x16x1x1_S4x12x12x3x3x16x16x4x4_0_1_2_3_4_5_6_7_8 : (⟨S4x12x12x3x3x16x16x1x1, .f32⟩ : BufTy).Contents (Elt F) → (⟨S4x12x12x3x3x16x16x4x4, .f32⟩ : BufTy).Contents (Elt F)),
    binary main_v114 main_v113 main_v115 (mulf : (⟨S4x12x12x3x3x16x16x4x4, .f32⟩ : BufTy).Contents (Elt F) → (⟨S4x12x12x3x3x16x16x4x4, .f32⟩ : BufTy).Contents (Elt F) → (⟨S4x12x12x3x3x16x16x4x4, .f32⟩ : BufTy).Contents (Elt F)),
    nullary main_cst_30 (constant S_ .f32 0x00000000#32),
    binary main_v115 main_cst_30 main_v116 ((fun x v => Host.reduceAdd x v reducesTo_S4x12x12x3x3x16x16x4x4_S4x12x12x16x4x4_d3_4_5 h_S_) : (⟨S4x12x12x3x3x16x16x4x4, .f32⟩ : BufTy).Contents (Elt F) → (⟨S_, .f32⟩ : BufTy).Contents (Elt F) → (⟨S4x12x12x16x4x4, .f32⟩ : BufTy).Contents (Elt F)),
    unary main_v116 main_v117 (broadcastInDim S4x12x12x1x1x1x16x4x4 ![0, 1, 2, 6, 7, 8] bcast_S4x12x12x16x4x4_S4x12x12x1x1x1x16x4x4_0_1_2_6_7_8 : (⟨S4x12x12x16x4x4, .f32⟩ : BufTy).Contents (Elt F) → (⟨S4x12x12x1x1x1x16x4x4, .f32⟩ : BufTy).Contents (Elt F)),
    nullary main_cst_31 (constant S_ .f32 0x33D6BF95#32),
    unary main_cst_31 main_v118 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v97 main_v118 main_v119 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    unary main_v119 main_v120 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v117 main_v120 main_v121 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_32 (constant S_ .f32 0x3A03126F#32),
    unary main_cst_32 main_v122 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v121 main_v122 main_v123 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)) ]
/-- What stretch 15 writes. -/
abbrev w15 : List (Ref sig .tc) := [main_v111, main_v112, main_v113, main_v114, main_v115, main_cst_30, main_v116, main_v117, main_cst_31, main_v118, main_v119, main_v120, main_v121, main_cst_32, main_v122, main_v123]

/-- Stretch 16, ending with `main_v126`. -/
def s16 : List (HloOp τ sig (Elt F)) :=
  [ nullary main_cst_33 (constant S_ .f32 0x33D6BF95#32),
    unary main_cst_33 main_v124 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v123 main_v124 main_v125 (addf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v125 main_v126 (Host.log : (⟨S4x12x12x1x1x1x16x4x4, .f32⟩ : BufTy).Contents (Elt F) → (⟨S4x12x12x1x1x1x16x4x4, .f32⟩ : BufTy).Contents (Elt F)) ]
/-- What stretch 16 writes. -/
abbrev w16 : List (Ref sig .tc) := [main_cst_33, main_v124, main_v125, main_v126]

/-- Stretch 17, ending with `main_v140`. -/
def s17 : List (HloOp τ sig (Elt F)) :=
  [ nullary main_cst_34 (constant S_ .f32 0x3F000000#32),
    unary main_cst_34 main_v127 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v127 main_v126 main_v128 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_arg3 main_v129 (broadcastInDim S4x12x12x1x1x1x16x4x4 ![0, 1, 2, 3, 4, 5, 6, 7, 8] bcast_S1x1x1x1x1x1x16x1x1_S4x12x12x1x1x1x16x4x4_0_1_2_3_4_5_6_7_8 : (⟨S1x1x1x1x1x1x16x1x1, .f32⟩ : BufTy).Contents (Elt F) → (⟨S4x12x12x1x1x1x16x4x4, .f32⟩ : BufTy).Contents (Elt F)),
    binary main_v129 main_v128 main_v130 (subf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    unary main_v97 main_v131 (broadcastInDim S4x12x12x1x1x1x16x4x4 ![0, 1, 2, 3, 4, 5, 6, 7, 8] bcast_S4x12x12x1x1x1x16x1x1_S4x12x12x1x1x1x16x4x4_0_1_2_3_4_5_6_7_8 : (⟨S4x12x12x1x1x1x16x1x1, .f32⟩ : BufTy).Contents (Elt F) → (⟨S4x12x12x1x1x1x16x4x4, .f32⟩ : BufTy).Contents (Elt F)),
    binary main_v130 main_v131 main_v132 (mulf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_35 (constant S_ .f32 0x3F800000#32),
    unary main_cst_35 main_v133 (broadcastInDim S4x12x12x1x1x1x16x4x4 ![] bcast_S_S4x12x12x1x1x1x16x4x4 : (⟨S_, .f32⟩ : BufTy).Contents (Elt F) → (⟨S4x12x12x1x1x1x16x4x4, .f32⟩ : BufTy).Contents (Elt F)),
    binary main_v132 main_v133 main_v134 (Host.divf : (⟨S4x12x12x1x1x1x16x4x4, .f32⟩ : BufTy).Contents (Elt F) → (⟨S4x12x12x1x1x1x16x4x4, .f32⟩ : BufTy).Contents (Elt F) → (⟨S4x12x12x1x1x1x16x4x4, .f32⟩ : BufTy).Contents (Elt F)),
    nullary main_cst_36 (constant S_ .f32 0x00000000#32),
    binary main_v134 main_cst_36 main_v135 ((fun x v => Host.reduceAdd x v reducesTo_S4x12x12x1x1x1x16x4x4_S4x12x12x1x1x1x16_d8_7 h_S_) : (⟨S4x12x12x1x1x1x16x4x4, .f32⟩ : BufTy).Contents (Elt F) → (⟨S_, .f32⟩ : BufTy).Contents (Elt F) → (⟨S4x12x12x1x1x1x16, .f32⟩ : BufTy).Contents (Elt F)),
    unary main_v135 main_v136 (broadcastInDim S4x12x12x1x1x1x16x1x1 ![0, 1, 2, 3, 4, 5, 6] bcast_S4x12x12x1x1x1x16_S4x12x12x1x1x1x16x1x1_0_1_2_3_4_5_6 : (⟨S4x12x12x1x1x1x16, .f32⟩ : BufTy).Contents (Elt F) → (⟨S4x12x12x1x1x1x16x1x1, .f32⟩ : BufTy).Contents (Elt F)),
    unary main_arg2 main_v137 (broadcastInDim S4x12x12x1x1x1x16x1x1 ![0, 1, 2, 3, 4, 5, 6, 7, 8] bcast_S1x1x1x1x1x1x16x1x1_S4x12x12x1x1x1x16x1x1_0_1_2_3_4_5_6_7_8 : (⟨S1x1x1x1x1x1x16x1x1, .f32⟩ : BufTy).Contents (Elt F) → (⟨S4x12x12x1x1x1x16x1x1, .f32⟩ : BufTy).Contents (Elt F)),
    binary main_v137 main_v136 main_v138 (subf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    nullary main_cst_37 (constant S_ .f32 0x3ABAF102#32),
    unary main_cst_37 main_v139 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v139 main_v138 main_v140 (mulf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)) ]
/-- What stretch 17 writes. -/
abbrev w17 : List (Ref sig .tc) := [main_cst_34, main_v127, main_v128, main_v129, main_v130, main_v131, main_v132, main_cst_35, main_v133, main_v134, main_cst_36, main_v135, main_v136, main_v137, main_v138, main_cst_37, main_v139, main_v140]

/-- Stretch 18, ending with `main_v146`. -/
def s18 : List (HloOp τ sig (Elt F)) :=
  [ unary main_v140 main_v141 (Host.negf : (⟨S4x12x12x1x1x1x16x1x1, .f32⟩ : BufTy).Contents (Elt F) → (⟨S4x12x12x1x1x1x16x1x1, .f32⟩ : BufTy).Contents (Elt F)),
    unary main_v141 main_v142 (Host.exp : (⟨S4x12x12x1x1x1x16x1x1, .f32⟩ : BufTy).Contents (Elt F) → (⟨S4x12x12x1x1x1x16x1x1, .f32⟩ : BufTy).Contents (Elt F)),
    nullary main_cst_38 (constant S_ .f32 0x3F800000#32),
    unary main_cst_38 main_v143 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v143 main_v142 main_v144 (addf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)),
    nullary main_cst_39 (constant S_ .f32 0x3F800000#32),
    unary main_cst_39 main_v145 (broadcastInDim S4x12x12x1x1x1x16x1x1 ![] bcast_S_S4x12x12x1x1x1x16x1x1 : (⟨S_, .f32⟩ : BufTy).Contents (Elt F) → (⟨S4x12x12x1x1x1x16x1x1, .f32⟩ : BufTy).Contents (Elt F)),
    binary main_v145 main_v144 main_v146 (Host.divf : (⟨S4x12x12x1x1x1x16x1x1, .f32⟩ : BufTy).Contents (Elt F) → (⟨S4x12x12x1x1x1x16x1x1, .f32⟩ : BufTy).Contents (Elt F) → (⟨S4x12x12x1x1x1x16x1x1, .f32⟩ : BufTy).Contents (Elt F)) ]
/-- What stretch 18 writes. -/
abbrev w18 : List (Ref sig .tc) := [main_v141, main_v142, main_cst_38, main_v143, main_v144, main_cst_39, main_v145, main_v146]

/-- Stretch 19, ending with `main_v148`. -/
def s19 : List (HloOp τ sig (Elt F)) :=
  [ reshape main_v110 main_v147 (rfl : (.f32 : EltTy) = .f32) shapeCasts_S4x12x12x1x1x1x16x4x4_S4x12x12x16x4x4,
    reshape main_v146 main_v148 (rfl : (.f32 : EltTy) = .f32) shapeCasts_S4x12x12x1x1x1x16x1x1_S4x12x12x16x1x1 ]
/-- What stretch 19 writes. -/
abbrev w19 : List (Ref sig .tc) := [main_v147, main_v148]

/-- The whole line. -/
def ops : List (HloOp τ sig (Elt F)) :=
  (s1 ++ s2 ++ s3 ++ s4 ++ s5 ++ s6) ++ (s7 ++ s8 ++ s9 ++ s10 ++ s11) ++ (s12 ++ s13 ++ s14 ++ s15 ++ s16 ++ s17) ++ (s18 ++ s19)

/-- Part 1 of the program is its stretches in order. -/
theorem part0_eq (c : Dev nD) : main_part0 (F := F) c = seq (s1 ++ s2 ++ s3 ++ s4 ++ s5 ++ s6) := rfl
/-- Part 2 of the program is its stretches in order. -/
theorem part1_eq (c : Dev nD) : main_part1 (F := F) c = seq (s7 ++ s8 ++ s9 ++ s10 ++ s11) := rfl
/-- Part 3 of the program is its stretches in order. -/
theorem part2_eq (c : Dev nD) : main_part2 (F := F) c = seq (s12 ++ s13 ++ s14 ++ s15 ++ s16 ++ s17) := rfl
/-- Part 4 of the program is its stretches in order. -/
theorem part3_eq (c : Dev nD) : main_part3 (F := F) c = seq (s18 ++ s19) := rfl

/-- The program is the line. -/
theorem main_eq (c : Dev nD) : main (F := F) c = seq ops := by
  rw [ops, seq_append, seq_append, seq_append, ← part0_eq c, ← part1_eq c, ← part2_eq c, ← part3_eq c]
  simp only [Prog.bind_assoc]
  rfl

/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-- Every operation touches references of the core it runs on. -/
theorem ops_sub : (ops : List (HloOp τ sig (Elt F))).Forall fun op => op.bufs ⊆ tcRefs τ sig := by
  simp only [ops, s1, s2, s3, s4, s5, s6, s7, s8, s9, s10, s11, s12, s13, s14, s15, s16, s17, s18, s19, List.cons_append, List.nil_append, List.Forall, unary_bufs_sub, binary_bufs_sub,
    nullary_bufs_sub, reshape_bufs_sub, and_self]

/-- No operation allocates. -/
theorem ops_fresh : ∀ op ∈ (ops : List (HloOp τ sig (Elt F))), op.fresh = ∅ := by
  have h : (ops : List (HloOp τ sig (Elt F))).Forall fun op => op.fresh = ∅ := by
    simp only [ops, s1, s2, s3, s4, s5, s6, s7, s8, s9, s10, s11, s12, s13, s14, s15, s16, s17, s18, s19, List.cons_append, List.nil_append, List.Forall]
    repeat' apply And.intro
    all_goals rfl
  exact fun op => List.forall_iff_forall_mem.mp h op

/-! ## The contents after each stretch -/

/-- The contents after 1 stretches. -/
def U1 (V : Valuation τ sig (Elt F)) : Valuation τ sig (Elt F) := after s1 V
/-- Stretch 1 keeps a buffer that it does not write. -/
theorem k1 (V : Valuation τ sig (Elt F)) (r : Ref sig .tc) (h : r ∉ w1) : U1 V (no_index (Proc.devRef .tc r)) = V (Proc.devRef .tc r) :=
  after_unwritten w1 rfl h _
/-- The contents after 2 stretches. -/
def U2 (V : Valuation τ sig (Elt F)) : Valuation τ sig (Elt F) := after s2 (U1 V)
/-- Stretch 2 keeps a buffer that it does not write. -/
theorem k2 (V : Valuation τ sig (Elt F)) (r : Ref sig .tc) (h : r ∉ w2) : U2 V (no_index (Proc.devRef .tc r)) = U1 V (Proc.devRef .tc r) :=
  after_unwritten w2 rfl h _
/-- The contents after 3 stretches. -/
def U3 (V : Valuation τ sig (Elt F)) : Valuation τ sig (Elt F) := after s3 (U2 V)
/-- Stretch 3 keeps a buffer that it does not write. -/
theorem k3 (V : Valuation τ sig (Elt F)) (r : Ref sig .tc) (h : r ∉ w3) : U3 V (no_index (Proc.devRef .tc r)) = U2 V (Proc.devRef .tc r) :=
  after_unwritten w3 rfl h _
/-- The contents after 4 stretches. -/
def U4 (V : Valuation τ sig (Elt F)) : Valuation τ sig (Elt F) := after s4 (U3 V)
/-- Stretch 4 keeps a buffer that it does not write. -/
theorem k4 (V : Valuation τ sig (Elt F)) (r : Ref sig .tc) (h : r ∉ w4) : U4 V (no_index (Proc.devRef .tc r)) = U3 V (Proc.devRef .tc r) :=
  after_unwritten w4 rfl h _
/-- The contents after 5 stretches. -/
def U5 (V : Valuation τ sig (Elt F)) : Valuation τ sig (Elt F) := after s5 (U4 V)
/-- Stretch 5 keeps a buffer that it does not write. -/
theorem k5 (V : Valuation τ sig (Elt F)) (r : Ref sig .tc) (h : r ∉ w5) : U5 V (no_index (Proc.devRef .tc r)) = U4 V (Proc.devRef .tc r) :=
  after_unwritten w5 rfl h _
/-- The contents after 6 stretches. -/
def U6 (V : Valuation τ sig (Elt F)) : Valuation τ sig (Elt F) := after s6 (U5 V)
/-- Stretch 6 keeps a buffer that it does not write. -/
theorem k6 (V : Valuation τ sig (Elt F)) (r : Ref sig .tc) (h : r ∉ w6) : U6 V (no_index (Proc.devRef .tc r)) = U5 V (Proc.devRef .tc r) :=
  after_unwritten w6 rfl h _
/-- The contents after 7 stretches. -/
def U7 (V : Valuation τ sig (Elt F)) : Valuation τ sig (Elt F) := after s7 (U6 V)
/-- Stretch 7 keeps a buffer that it does not write. -/
theorem k7 (V : Valuation τ sig (Elt F)) (r : Ref sig .tc) (h : r ∉ w7) : U7 V (no_index (Proc.devRef .tc r)) = U6 V (Proc.devRef .tc r) :=
  after_unwritten w7 rfl h _
/-- The contents after 8 stretches. -/
def U8 (V : Valuation τ sig (Elt F)) : Valuation τ sig (Elt F) := after s8 (U7 V)
/-- Stretch 8 keeps a buffer that it does not write. -/
theorem k8 (V : Valuation τ sig (Elt F)) (r : Ref sig .tc) (h : r ∉ w8) : U8 V (no_index (Proc.devRef .tc r)) = U7 V (Proc.devRef .tc r) :=
  after_unwritten w8 rfl h _
/-- The contents after 9 stretches. -/
def U9 (V : Valuation τ sig (Elt F)) : Valuation τ sig (Elt F) := after s9 (U8 V)
/-- Stretch 9 keeps a buffer that it does not write. -/
theorem k9 (V : Valuation τ sig (Elt F)) (r : Ref sig .tc) (h : r ∉ w9) : U9 V (no_index (Proc.devRef .tc r)) = U8 V (Proc.devRef .tc r) :=
  after_unwritten w9 rfl h _
/-- The contents after 10 stretches. -/
def U10 (V : Valuation τ sig (Elt F)) : Valuation τ sig (Elt F) := after s10 (U9 V)
/-- Stretch 10 keeps a buffer that it does not write. -/
theorem k10 (V : Valuation τ sig (Elt F)) (r : Ref sig .tc) (h : r ∉ w10) : U10 V (no_index (Proc.devRef .tc r)) = U9 V (Proc.devRef .tc r) :=
  after_unwritten w10 rfl h _
/-- The contents after 11 stretches. -/
def U11 (V : Valuation τ sig (Elt F)) : Valuation τ sig (Elt F) := after s11 (U10 V)
/-- Stretch 11 keeps a buffer that it does not write. -/
theorem k11 (V : Valuation τ sig (Elt F)) (r : Ref sig .tc) (h : r ∉ w11) : U11 V (no_index (Proc.devRef .tc r)) = U10 V (Proc.devRef .tc r) :=
  after_unwritten w11 rfl h _
/-- The contents after 12 stretches. -/
def U12 (V : Valuation τ sig (Elt F)) : Valuation τ sig (Elt F) := after s12 (U11 V)
/-- Stretch 12 keeps a buffer that it does not write. -/
theorem k12 (V : Valuation τ sig (Elt F)) (r : Ref sig .tc) (h : r ∉ w12) : U12 V (no_index (Proc.devRef .tc r)) = U11 V (Proc.devRef .tc r) :=
  after_unwritten w12 rfl h _
/-- The contents after 13 stretches. -/
def U13 (V : Valuation τ sig (Elt F)) : Valuation τ sig (Elt F) := after s13 (U12 V)
/-- Stretch 13 keeps a buffer that it does not write. -/
theorem k13 (V : Valuation τ sig (Elt F)) (r : Ref sig .tc) (h : r ∉ w13) : U13 V (no_index (Proc.devRef .tc r)) = U12 V (Proc.devRef .tc r) :=
  after_unwritten w13 rfl h _
/-- The contents after 14 stretches. -/
def U14 (V : Valuation τ sig (Elt F)) : Valuation τ sig (Elt F) := after s14 (U13 V)
/-- Stretch 14 keeps a buffer that it does not write. -/
theorem k14 (V : Valuation τ sig (Elt F)) (r : Ref sig .tc) (h : r ∉ w14) : U14 V (no_index (Proc.devRef .tc r)) = U13 V (Proc.devRef .tc r) :=
  after_unwritten w14 rfl h _
/-- The contents after 15 stretches. -/
def U15 (V : Valuation τ sig (Elt F)) : Valuation τ sig (Elt F) := after s15 (U14 V)
/-- Stretch 15 keeps a buffer that it does not write. -/
theorem k15 (V : Valuation τ sig (Elt F)) (r : Ref sig .tc) (h : r ∉ w15) : U15 V (no_index (Proc.devRef .tc r)) = U14 V (Proc.devRef .tc r) :=
  after_unwritten w15 rfl h _
/-- The contents after 16 stretches. -/
def U16 (V : Valuation τ sig (Elt F)) : Valuation τ sig (Elt F) := after s16 (U15 V)
/-- Stretch 16 keeps a buffer that it does not write. -/
theorem k16 (V : Valuation τ sig (Elt F)) (r : Ref sig .tc) (h : r ∉ w16) : U16 V (no_index (Proc.devRef .tc r)) = U15 V (Proc.devRef .tc r) :=
  after_unwritten w16 rfl h _
/-- The contents after 17 stretches. -/
def U17 (V : Valuation τ sig (Elt F)) : Valuation τ sig (Elt F) := after s17 (U16 V)
/-- Stretch 17 keeps a buffer that it does not write. -/
theorem k17 (V : Valuation τ sig (Elt F)) (r : Ref sig .tc) (h : r ∉ w17) : U17 V (no_index (Proc.devRef .tc r)) = U16 V (Proc.devRef .tc r) :=
  after_unwritten w17 rfl h _
/-- The contents after 18 stretches. -/
def U18 (V : Valuation τ sig (Elt F)) : Valuation τ sig (Elt F) := after s18 (U17 V)
/-- Stretch 18 keeps a buffer that it does not write. -/
theorem k18 (V : Valuation τ sig (Elt F)) (r : Ref sig .tc) (h : r ∉ w18) : U18 V (no_index (Proc.devRef .tc r)) = U17 V (Proc.devRef .tc r) :=
  after_unwritten w18 rfl h _
/-- The contents after 19 stretches. -/
def U19 (V : Valuation τ sig (Elt F)) : Valuation τ sig (Elt F) := after s19 (U18 V)
/-- Stretch 19 keeps a buffer that it does not write. -/
theorem k19 (V : Valuation τ sig (Elt F)) (r : Ref sig .tc) (h : r ∉ w19) : U19 V (no_index (Proc.devRef .tc r)) = U18 V (Proc.devRef .tc r) :=
  after_unwritten w19 rfl h _

/-- The contents after the whole program are those after its last stretch. -/
theorem after_ops (V : Valuation τ sig (Elt F)) : after ops V = U19 V := by
  simp only [ops, after_append]; rfl

/-! ## What each stretch leaves, as a function of what it reads -/

/-- What stretch 1 leaves in buffer 0, from what it finds. -/
theorem o1_v0 (V : Valuation τ sig (Elt F)) : U1 V (no_index (Proc.devRef .tc main_v0)) = zeroPose := by
  unfold U1; simp only [s1]; after_results_simp; rfl
/-- What stretch 1 leaves in buffer 12, from what it finds. -/
theorem o1_v12 (V : Valuation τ sig (Elt F)) : U1 V (no_index (Proc.devRef .tc main_v12)) = evenShare := by
  unfold U1; simp only [s1]; after_results_simp; rfl
/-- What stretch 2 leaves in buffer 14, from what it finds. -/
theorem o2_v14 (V : Valuation τ sig (Elt F)) : U2 V (no_index (Proc.devRef .tc main_v14)) = weigh (U1 V (Proc.devRef .tc main_arg1)) (U1 V (Proc.devRef .tc main_v12)) := by
  unfold U2; simp only [s2]; after_results_simp; rfl
/-- What stretch 3 leaves in buffer 16, from what it finds. -/
theorem o3_v16 (V : Valuation τ sig (Elt F)) : U3 V (no_index (Proc.devRef .tc main_v16)) = total (U2 V (Proc.devRef .tc main_v14)) := by
  unfold U3; simp only [s3]; after_results_simp; rfl
/-- What stretch 4 leaves in buffer 29, from what it finds. -/
theorem o4_v29 (V : Valuation τ sig (Elt F)) : U4 V (no_index (Proc.devRef .tc main_v29)) = center (U3 V (Proc.devRef .tc main_v14)) (U3 V (Proc.devRef .tc main_arg0)) (U3 V (Proc.devRef .tc main_v16)) (U3 V (Proc.devRef .tc main_v0)) := by
  unfold U4; simp only [s4]; after_results_simp; rfl
/-- What stretch 5 leaves in buffer 42, from what it finds. -/
theorem o5_v42 (V : Valuation τ sig (Elt F)) : U5 V (no_index (Proc.devRef .tc main_v42)) = spread (U4 V (Proc.devRef .tc main_v29)) (U4 V (Proc.devRef .tc main_arg0)) (U4 V (Proc.devRef .tc main_v14)) (U4 V (Proc.devRef .tc main_v16)) := by
  unfold U5; simp only [s5]; after_results_simp; rfl
/-- What stretch 6 leaves in buffer 45, from what it finds. -/
theorem o6_v45 (V : Valuation τ sig (Elt F)) : U6 V (no_index (Proc.devRef .tc main_v45)) = logSpread (U5 V (Proc.devRef .tc main_v42)) := by
  unfold U6; simp only [s6]; after_results_simp; rfl
/-- What stretch 7 leaves in buffer 59, from what it finds. -/
theorem o7_v59 (V : Valuation τ sig (Elt F)) : U7 V (no_index (Proc.devRef .tc main_v59)) = logit 0x3A03126F#32 (U6 V (Proc.devRef .tc main_v45)) (U6 V (Proc.devRef .tc main_arg3)) (U6 V (Proc.devRef .tc main_v16)) (U6 V (Proc.devRef .tc main_arg2)) := by
  unfold U7; simp only [s7]; after_results_simp; rfl
/-- What stretch 8 leaves in buffer 65, from what it finds. -/
theorem o8_v65 (V : Valuation τ sig (Elt F)) : U8 V (no_index (Proc.devRef .tc main_v65)) = squash (U7 V (Proc.devRef .tc main_v59)) := by
  unfold U8; simp only [s8]; after_results_simp; rfl
/-- What stretch 9 leaves in buffer 83, from what it finds. -/
theorem o9_v83 (V : Valuation τ sig (Elt F)) : U9 V (no_index (Proc.devRef .tc main_v83)) = score (U8 V (Proc.devRef .tc main_v42)) (U8 V (Proc.devRef .tc main_v29)) (U8 V (Proc.devRef .tc main_arg0)) (U8 V (Proc.devRef .tc main_v65)) := by
  unfold U9; simp only [s9]; after_results_simp; rfl
/-- What stretch 10 leaves in buffer 87, from what it finds. -/
theorem o10_v87 (V : Valuation τ sig (Elt F)) : U10 V (no_index (Proc.devRef .tc main_v87)) = shifted (U9 V (Proc.devRef .tc main_v83)) := by
  unfold U10; simp only [s10]; after_results_simp; rfl
/-- What stretch 11 leaves in buffer 93, from what it finds. -/
theorem o11_v93 (V : Valuation τ sig (Elt F)) : U11 V (no_index (Proc.devRef .tc main_v93)) = shares (U10 V (Proc.devRef .tc main_v87)) := by
  unfold U11; simp only [s11]; after_results_simp; rfl
/-- What stretch 12 leaves in buffer 95, from what it finds. -/
theorem o12_v95 (V : Valuation τ sig (Elt F)) : U12 V (no_index (Proc.devRef .tc main_v95)) = weigh (U11 V (Proc.devRef .tc main_arg1)) (U11 V (Proc.devRef .tc main_v93)) := by
  unfold U12; simp only [s12]; after_results_simp; rfl
/-- What stretch 13 leaves in buffer 97, from what it finds. -/
theorem o13_v97 (V : Valuation τ sig (Elt F)) : U13 V (no_index (Proc.devRef .tc main_v97)) = total (U12 V (Proc.devRef .tc main_v95)) := by
  unfold U13; simp only [s13]; after_results_simp; rfl
/-- What stretch 14 leaves in buffer 110, from what it finds. -/
theorem o14_v110 (V : Valuation τ sig (Elt F)) : U14 V (no_index (Proc.devRef .tc main_v110)) = center (U13 V (Proc.devRef .tc main_v95)) (U13 V (Proc.devRef .tc main_arg0)) (U13 V (Proc.devRef .tc main_v97)) (U13 V (Proc.devRef .tc main_v29)) := by
  unfold U14; simp only [s14]; after_results_simp; rfl
/-- What stretch 15 leaves in buffer 123, from what it finds. -/
theorem o15_v123 (V : Valuation τ sig (Elt F)) : U15 V (no_index (Proc.devRef .tc main_v123)) = spread (U14 V (Proc.devRef .tc main_v110)) (U14 V (Proc.devRef .tc main_arg0)) (U14 V (Proc.devRef .tc main_v95)) (U14 V (Proc.devRef .tc main_v97)) := by
  unfold U15; simp only [s15]; after_results_simp; rfl
/-- What stretch 16 leaves in buffer 126, from what it finds. -/
theorem o16_v126 (V : Valuation τ sig (Elt F)) : U16 V (no_index (Proc.devRef .tc main_v126)) = logSpread (U15 V (Proc.devRef .tc main_v123)) := by
  unfold U16; simp only [s16]; after_results_simp; rfl
/-- What stretch 17 leaves in buffer 140, from what it finds. -/
theorem o17_v140 (V : Valuation τ sig (Elt F)) : U17 V (no_index (Proc.devRef .tc main_v140)) = logit 0x3ABAF102#32 (U16 V (Proc.devRef .tc main_v126)) (U16 V (Proc.devRef .tc main_arg3)) (U16 V (Proc.devRef .tc main_v97)) (U16 V (Proc.devRef .tc main_arg2)) := by
  unfold U17; simp only [s17]; after_results_simp; rfl
/-- What stretch 18 leaves in buffer 146, from what it finds. -/
theorem o18_v146 (V : Valuation τ sig (Elt F)) : U18 V (no_index (Proc.devRef .tc main_v146)) = squash (U17 V (Proc.devRef .tc main_v140)) := by
  unfold U18; simp only [s18]; after_results_simp; rfl
/-- What stretch 19 leaves in buffer 147, from what it finds. -/
theorem o19_v147 (V : Valuation τ sig (Elt F)) : U19 V (no_index (Proc.devRef .tc main_v147)) = shapeCast _ (U18 V (Proc.devRef .tc main_v110)) shapeCasts_S4x12x12x1x1x1x16x4x4_S4x12x12x16x4x4 := by
  unfold U19; simp only [s19]; after_results_simp; rfl
/-- What stretch 19 leaves in buffer 148, from what it finds. -/
theorem o19_v148 (V : Valuation τ sig (Elt F)) : U19 V (no_index (Proc.devRef .tc main_v148)) = shapeCast _ (U18 V (Proc.devRef .tc main_v146)) shapeCasts_S4x12x12x1x1x1x16x1x1_S4x12x12x16x1x1 := by
  unfold U19; simp only [s19]; after_results_simp; rfl

/-! ## The reference's quantities, in order, as functions of the four arguments -/

section Named

variable (v : (⟨S4x12x12x3x3x16x16x4x4, .f32⟩ : BufTy).Contents (Elt F)) (a : (⟨S4x12x12x3x3x16x1x1x1, .f32⟩ : BufTy).Contents (Elt F))
  (ba bu : (⟨S1x1x1x1x1x1x16x1x1, .f32⟩ : BufTy).Contents (Elt F))

/-- The first weights. -/
def W1 : (⟨S4x12x12x3x3x16x16x1x1, .f32⟩ : BufTy).Contents (Elt F) := weigh a evenShare
/-- Their totals. -/
def S1 : (⟨S4x12x12x1x1x1x16x1x1, .f32⟩ : BufTy).Contents (Elt F) := total (W1 a)
/-- The first means. -/
def M1 : (⟨S4x12x12x1x1x1x16x4x4, .f32⟩ : BufTy).Contents (Elt F) := center (W1 a) v (S1 a) zeroPose
/-- The first variances. -/
def D1 : (⟨S4x12x12x1x1x1x16x4x4, .f32⟩ : BufTy).Contents (Elt F) := spread (M1 v a) v (W1 a) (S1 a)
/-- Their logarithms. -/
def L1 : (⟨S4x12x12x1x1x1x16x4x4, .f32⟩ : BufTy).Contents (Elt F) := logSpread (D1 v a)
/-- The first logits. -/
def T1 : (⟨S4x12x12x1x1x1x16x1x1, .f32⟩ : BufTy).Contents (Elt F) := logit 0x3A03126F#32 (L1 v a) bu (S1 a) ba
/-- The first activations. -/
def P1 : (⟨S4x12x12x1x1x1x16x1x1, .f32⟩ : BufTy).Contents (Elt F) := squash (T1 v a ba bu)
/-- The scores. -/
def C1 : (⟨S4x12x12x3x3x16x16x1x1, .f32⟩ : BufTy).Contents (Elt F) := score (D1 v a) (M1 v a) v (P1 v a ba bu)
/-- Their shifted exponentials. -/
def E1 : (⟨S4x12x12x3x3x16x16x1x1, .f32⟩ : BufTy).Contents (Elt F) := shifted (C1 v a ba bu)
/-- The second assignment. -/
def R2 : (⟨S4x12x12x3x3x16x16x1x1, .f32⟩ : BufTy).Contents (Elt F) := shares (E1 v a ba bu)
/-- The second weights. -/
def W2 : (⟨S4x12x12x3x3x16x16x1x1, .f32⟩ : BufTy).Contents (Elt F) := weigh a (R2 v a ba bu)
/-- Their totals. -/
def S2 : (⟨S4x12x12x1x1x1x16x1x1, .f32⟩ : BufTy).Contents (Elt F) := total (W2 v a ba bu)
/-- The second means. -/
def M2 : (⟨S4x12x12x1x1x1x16x4x4, .f32⟩ : BufTy).Contents (Elt F) := center (W2 v a ba bu) v (S2 v a ba bu) (M1 v a)
/-- The second variances. -/
def D2 : (⟨S4x12x12x1x1x1x16x4x4, .f32⟩ : BufTy).Contents (Elt F) := spread (M2 v a ba bu) v (W2 v a ba bu) (S2 v a ba bu)
/-- Their logarithms. -/
def L2 : (⟨S4x12x12x1x1x1x16x4x4, .f32⟩ : BufTy).Contents (Elt F) := logSpread (D2 v a ba bu)
/-- The second logits. -/
def T2 : (⟨S4x12x12x1x1x1x16x1x1, .f32⟩ : BufTy).Contents (Elt F) := logit 0x3ABAF102#32 (L2 v a ba bu) bu (S2 v a ba bu) ba
/-- The second activations. -/
def P2 : (⟨S4x12x12x1x1x1x16x1x1, .f32⟩ : BufTy).Contents (Elt F) := squash (T2 v a ba bu)

end Named

/-- What buffer 14 holds, from the arguments. -/
theorem u_v14 (V : Valuation τ sig (Elt F)) : U2 V (no_index (Proc.devRef .tc main_v14)) = W1 (V (Proc.devRef .tc main_arg1)) := by
  rw [o2_v14]; simp (disch := decide) only [o1_v0, o1_v12, k1]; rfl
/-- What buffer 16 holds, from the arguments. -/
theorem u_v16 (V : Valuation τ sig (Elt F)) : U3 V (no_index (Proc.devRef .tc main_v16)) = S1 (V (Proc.devRef .tc main_arg1)) := by
  rw [o3_v16]; simp (disch := decide) only [o1_v0, o1_v12, u_v14, k1, k2]; rfl
/-- What buffer 29 holds, from the arguments. -/
theorem u_v29 (V : Valuation τ sig (Elt F)) : U4 V (no_index (Proc.devRef .tc main_v29)) = M1 (V (Proc.devRef .tc main_arg0)) (V (Proc.devRef .tc main_arg1)) := by
  rw [o4_v29]; simp (disch := decide) only [o1_v0, o1_v12, u_v14, u_v16, k1, k2, k3]; rfl
/-- What buffer 42 holds, from the arguments. -/
theorem u_v42 (V : Valuation τ sig (Elt F)) : U5 V (no_index (Proc.devRef .tc main_v42)) = D1 (V (Proc.devRef .tc main_arg0)) (V (Proc.devRef .tc main_arg1)) := by
  rw [o5_v42]; simp (disch := decide) only [o1_v0, o1_v12, u_v14, u_v16, u_v29, k1, k2, k3, k4]; rfl
/-- What buffer 45 holds, from the arguments. -/
theorem u_v45 (V : Valuation τ sig (Elt F)) : U6 V (no_index (Proc.devRef .tc main_v45)) = L1 (V (Proc.devRef .tc main_arg0)) (V (Proc.devRef .tc main_arg1)) := by
  rw [o6_v45]; simp (disch := decide) only [o1_v0, o1_v12, u_v14, u_v16, u_v29, u_v42, k1, k2, k3, k4, k5]; rfl
/-- What buffer 59 holds, from the arguments. -/
theorem u_v59 (V : Valuation τ sig (Elt F)) : U7 V (no_index (Proc.devRef .tc main_v59)) = T1 (V (Proc.devRef .tc main_arg0)) (V (Proc.devRef .tc main_arg1)) (V (Proc.devRef .tc main_arg2)) (V (Proc.devRef .tc main_arg3)) := by
  rw [o7_v59]; simp (disch := decide) only [o1_v0, o1_v12, u_v14, u_v16, u_v29, u_v42, u_v45, k1, k2, k3, k4, k5, k6]; rfl
/-- What buffer 65 holds, from the arguments. -/
theorem u_v65 (V : Valuation τ sig (Elt F)) : U8 V (no_index (Proc.devRef .tc main_v65)) = P1 (V (Proc.devRef .tc main_arg0)) (V (Proc.devRef .tc main_arg1)) (V (Proc.devRef .tc main_arg2)) (V (Proc.devRef .tc main_arg3)) := by
  rw [o8_v65]; simp (disch := decide) only [o1_v0, o1_v12, u_v14, u_v16, u_v29, u_v42, u_v45, u_v59, k1, k2, k3, k4, k5, k6, k7]; rfl
/-- What buffer 83 holds, from the arguments. -/
theorem u_v83 (V : Valuation τ sig (Elt F)) : U9 V (no_index (Proc.devRef .tc main_v83)) = C1 (V (Proc.devRef .tc main_arg0)) (V (Proc.devRef .tc main_arg1)) (V (Proc.devRef .tc main_arg2)) (V (Proc.devRef .tc main_arg3)) := by
  rw [o9_v83]; simp (disch := decide) only [o1_v0, o1_v12, u_v14, u_v16, u_v29, u_v42, u_v45, u_v59, u_v65, k1, k2, k3, k4, k5, k6, k7, k8]; rfl
/-- What buffer 87 holds, from the arguments. -/
theorem u_v87 (V : Valuation τ sig (Elt F)) : U10 V (no_index (Proc.devRef .tc main_v87)) = E1 (V (Proc.devRef .tc main_arg0)) (V (Proc.devRef .tc main_arg1)) (V (Proc.devRef .tc main_arg2)) (V (Proc.devRef .tc main_arg3)) := by
  rw [o10_v87]; simp (disch := decide) only [o1_v0, o1_v12, u_v14, u_v16, u_v29, u_v42, u_v45, u_v59, u_v65, u_v83, k1, k2, k3, k4, k5, k6, k7, k8, k9]; rfl
/-- What buffer 93 holds, from the arguments. -/
theorem u_v93 (V : Valuation τ sig (Elt F)) : U11 V (no_index (Proc.devRef .tc main_v93)) = R2 (V (Proc.devRef .tc main_arg0)) (V (Proc.devRef .tc main_arg1)) (V (Proc.devRef .tc main_arg2)) (V (Proc.devRef .tc main_arg3)) := by
  rw [o11_v93]; simp (disch := decide) only [o1_v0, o1_v12, u_v14, u_v16, u_v29, u_v42, u_v45, u_v59, u_v65, u_v83, u_v87, k1, k2, k3, k4, k5, k6, k7, k8, k9, k10]; rfl
/-- What buffer 95 holds, from the arguments. -/
theorem u_v95 (V : Valuation τ sig (Elt F)) : U12 V (no_index (Proc.devRef .tc main_v95)) = W2 (V (Proc.devRef .tc main_arg0)) (V (Proc.devRef .tc main_arg1)) (V (Proc.devRef .tc main_arg2)) (V (Proc.devRef .tc main_arg3)) := by
  rw [o12_v95]; simp (disch := decide) only [o1_v0, o1_v12, u_v14, u_v16, u_v29, u_v42, u_v45, u_v59, u_v65, u_v83, u_v87, u_v93, k1, k2, k3, k4, k5, k6, k7, k8, k9, k10, k11]; rfl
/-- What buffer 97 holds, from the arguments. -/
theorem u_v97 (V : Valuation τ sig (Elt F)) : U13 V (no_index (Proc.devRef .tc main_v97)) = S2 (V (Proc.devRef .tc main_arg0)) (V (Proc.devRef .tc main_arg1)) (V (Proc.devRef .tc main_arg2)) (V (Proc.devRef .tc main_arg3)) := by
  rw [o13_v97]; simp (disch := decide) only [o1_v0, o1_v12, u_v14, u_v16, u_v29, u_v42, u_v45, u_v59, u_v65, u_v83, u_v87, u_v93, u_v95, k1, k2, k3, k4, k5, k6, k7, k8, k9, k10, k11, k12]; rfl
/-- What buffer 110 holds, from the arguments. -/
theorem u_v110 (V : Valuation τ sig (Elt F)) : U14 V (no_index (Proc.devRef .tc main_v110)) = M2 (V (Proc.devRef .tc main_arg0)) (V (Proc.devRef .tc main_arg1)) (V (Proc.devRef .tc main_arg2)) (V (Proc.devRef .tc main_arg3)) := by
  rw [o14_v110]; simp (disch := decide) only [o1_v0, o1_v12, u_v14, u_v16, u_v29, u_v42, u_v45, u_v59, u_v65, u_v83, u_v87, u_v93, u_v95, u_v97, k1, k2, k3, k4, k5, k6, k7, k8, k9, k10, k11, k12, k13]; rfl
/-- What buffer 123 holds, from the arguments. -/
theorem u_v123 (V : Valuation τ sig (Elt F)) : U15 V (no_index (Proc.devRef .tc main_v123)) = D2 (V (Proc.devRef .tc main_arg0)) (V (Proc.devRef .tc main_arg1)) (V (Proc.devRef .tc main_arg2)) (V (Proc.devRef .tc main_arg3)) := by
  rw [o15_v123]; simp (disch := decide) only [o1_v0, o1_v12, u_v14, u_v16, u_v29, u_v42, u_v45, u_v59, u_v65, u_v83, u_v87, u_v93, u_v95, u_v97, u_v110, k1, k2, k3, k4, k5, k6, k7, k8, k9, k10, k11, k12, k13, k14]; rfl
/-- What buffer 126 holds, from the arguments. -/
theorem u_v126 (V : Valuation τ sig (Elt F)) : U16 V (no_index (Proc.devRef .tc main_v126)) = L2 (V (Proc.devRef .tc main_arg0)) (V (Proc.devRef .tc main_arg1)) (V (Proc.devRef .tc main_arg2)) (V (Proc.devRef .tc main_arg3)) := by
  rw [o16_v126]; simp (disch := decide) only [o1_v0, o1_v12, u_v14, u_v16, u_v29, u_v42, u_v45, u_v59, u_v65, u_v83, u_v87, u_v93, u_v95, u_v97, u_v110, u_v123, k1, k2, k3, k4, k5, k6, k7, k8, k9, k10, k11, k12, k13, k14, k15]; rfl
/-- What buffer 140 holds, from the arguments. -/
theorem u_v140 (V : Valuation τ sig (Elt F)) : U17 V (no_index (Proc.devRef .tc main_v140)) = T2 (V (Proc.devRef .tc main_arg0)) (V (Proc.devRef .tc main_arg1)) (V (Proc.devRef .tc main_arg2)) (V (Proc.devRef .tc main_arg3)) := by
  rw [o17_v140]; simp (disch := decide) only [o1_v0, o1_v12, u_v14, u_v16, u_v29, u_v42, u_v45, u_v59, u_v65, u_v83, u_v87, u_v93, u_v95, u_v97, u_v110, u_v123, u_v126, k1, k2, k3, k4, k5, k6, k7, k8, k9, k10, k11, k12, k13, k14, k15, k16]; rfl
/-- What buffer 146 holds, from the arguments. -/
theorem u_v146 (V : Valuation τ sig (Elt F)) : U18 V (no_index (Proc.devRef .tc main_v146)) = P2 (V (Proc.devRef .tc main_arg0)) (V (Proc.devRef .tc main_arg1)) (V (Proc.devRef .tc main_arg2)) (V (Proc.devRef .tc main_arg3)) := by
  rw [o18_v146]; simp (disch := decide) only [o1_v0, o1_v12, u_v14, u_v16, u_v29, u_v42, u_v45, u_v59, u_v65, u_v83, u_v87, u_v93, u_v95, u_v97, u_v110, u_v123, u_v126, u_v140, k1, k2, k3, k4, k5, k6, k7, k8, k9, k10, k11, k12, k13, k14, k15, k16, k17]; rfl

/-- What the line leaves at the first result. -/
theorem pose_eq (V : Valuation τ sig (Elt F)) : U19 V (Proc.devRef .tc main_v147) =
    shapeCast _ (M2 (V (Proc.devRef .tc main_arg0)) (V (Proc.devRef .tc main_arg1)) (V (Proc.devRef .tc main_arg2)) (V (Proc.devRef .tc main_arg3))) shapeCasts_S4x12x12x1x1x1x16x4x4_S4x12x12x16x4x4 := by
  rw [o19_v147]; simp (disch := decide) only [u_v110, k1, k2, k3, k4, k5, k6, k7, k8, k9, k10, k11, k12, k13, k14, k15, k16, k17, k18]

/-- What the line leaves at the second result. -/
theorem act_eq (V : Valuation τ sig (Elt F)) : U19 V (Proc.devRef .tc main_v148) =
    shapeCast _ (P2 (V (Proc.devRef .tc main_arg0)) (V (Proc.devRef .tc main_arg1)) (V (Proc.devRef .tc main_arg2)) (V (Proc.devRef .tc main_arg3))) shapeCasts_S4x12x12x1x1x1x16x1x1_S4x12x12x16x1x1 := by
  rw [o19_v148]; simp (disch := decide) only [u_v146, k1, k2, k3, k4, k5, k6, k7, k8, k9, k10, k11, k12, k13, k14, k15, k16, k17, k18]

/-- The line changes no argument. -/
theorem args_eq (V : Valuation τ sig (Elt F)) (r : Ref sig .tc) (h : r ∈ [main_arg0, main_arg1, main_arg2, main_arg3]) :
    U19 V (Proc.devRef .tc r) = V (Proc.devRef .tc r) := by
  simp only [List.mem_cons, List.not_mem_nil, or_false] at h
  rcases h with rfl | rfl | rfl | rfl <;> simp (disch := decide) only [k1, k2, k3, k4, k5, k6, k7, k8, k9, k10, k11, k12, k13, k14, k15, k16, k17, k18, k19]

/-- Every execution of the reference ends with the first result at the second means, the second at the second activations, the arguments
    as launched and every semaphore counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v147) = shapeCast _ (M2 (m ((c.tc : Thread nD τ).loc main_arg0)) (m ((c.tc : Thread nD τ).loc main_arg1))
          (m ((c.tc : Thread nD τ).loc main_arg2)) (m ((c.tc : Thread nD τ).loc main_arg3))) shapeCasts_S4x12x12x1x1x1x16x4x4_S4x12x12x16x4x4
      ∧ r.2.mem ((c.tc : Thread nD τ).loc main_v148) = shapeCast _ (P2 (m ((c.tc : Thread nD τ).loc main_arg0)) (m ((c.tc : Thread nD τ).loc main_arg1))
          (m ((c.tc : Thread nD τ).loc main_arg2)) (m ((c.tc : Thread nD τ).loc main_arg3))) shapeCasts_S4x12x12x1x1x1x16x1x1_S4x12x12x16x1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => by
      have e : ∀ b : Ref sig .tc, r.2.mem ((c.tc : Thread nD τ).loc b) = U19 (launchContents m c) (Proc.devRef .tc b) := fun b =>
        (h c b).trans (congrFun (after_ops (launchContents m c)) _)
      exact ⟨(e _).trans (pose_eq _), (e _).trans (act_eq _), (e _).trans (args_eq _ _ (by decide)), (e _).trans (args_eq _ _ (by decide)),
        (e _).trans (args_eq _ _ (by decide)), (e _).trans (args_eq _ _ (by decide))⟩,
      sem_eq_zero_of_no_sems (by decide) r.2⟩)
    (run_seq scopedRefs_eq scopedSems_eq defs main (fun _ => ops) main_eq (fun _ => ops_sub) m ρ fun _ => ops_fresh)

end Cert.ReferenceIdeal.Line

end
-- ==== Proof.Caps.lean ====
/-
The routing's arithmetic over extended reals, free of any program: weighted means and variances, the scores of the votes, the shares, and
the agreement of two ways of writing each.
-/
module

public import Idealize.ShloMosaic.PureOps.Ideal.Laws
public import Idealize.ShloMosaic.Lib.IdealHost

@[expose] public section

noncomputable section

namespace Cert.Caps

open Idealize.ShloMosaic
open scoped BigOperators

/-! ## The constants -/

/-- The small constant added to a divisor. -/
abbrev eps : EReal := Ideal.ofBits .f32 0x33D6BF95#32
/-- The variance floor. -/
abbrev flr : EReal := Ideal.ofBits .f32 0x3A03126F#32
/-- One half. -/
abbrev half : EReal := Ideal.ofBits .f32 0x3F000000#32
/-- Two. -/
abbrev two : EReal := Ideal.ofBits .f32 0x40000000#32
/-- Twice the circle constant. -/
abbrev tau : EReal := Ideal.ofBits .f32 0x40C90FDB#32
/-- One sixteenth. -/
abbrev sixt : EReal := Ideal.ofBits .f32 0x3D800000#32
/-- The first round's inverse temperature. -/
abbrev temp1 : EReal := Ideal.ofBits .f32 0x3A03126F#32
/-- The second round's inverse temperature. -/
abbrev temp2 : EReal := Ideal.ofBits .f32 0x3ABAF102#32

/-- One half, as a real. -/
theorem half_eq : half = ((1 / 2 : ℝ) : EReal) := by
  simp [Ideal.ofBits, Ideal.ieee, -EReal.coe_mul]; norm_num
/-- Two, as a real. -/
theorem two_eq : two = ((2 : ℝ) : EReal) := by
  simp [Ideal.ofBits, Ideal.ieee, -EReal.coe_mul]; norm_num
/-- One sixteenth, as a real. -/
theorem sixt_eq : sixt = ((1 / 16 : ℝ) : EReal) := by
  simp [Ideal.ofBits, Ideal.ieee, -EReal.coe_mul]; norm_num
/-- The small constant is a positive real. -/
theorem eps_pos : ∃ e : ℝ, 0 < e ∧ eps = (e : EReal) :=
  by refine ⟨_, ?_, by simp [Ideal.ofBits, Ideal.ieee, -EReal.coe_mul]; rfl⟩; norm_num
/-- The variance floor is a positive real. -/
theorem flr_pos : ∃ e : ℝ, 0 < e ∧ flr = (e : EReal) :=
  by refine ⟨_, ?_, by simp [Ideal.ofBits, Ideal.ieee, -EReal.coe_mul]; rfl⟩; norm_num
/-- Twice the circle constant is a positive real. -/
theorem tau_pos : ∃ e : ℝ, 0 < e ∧ tau = (e : EReal) :=
  by refine ⟨_, ?_, by simp [Ideal.ofBits, Ideal.ieee, -EReal.coe_mul]; rfl⟩; norm_num

/-! ## Reals among the extended reals -/

/-- A finite sum of reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real other than zero is the real quotient. -/
theorem div_coe (x y : ℝ) (hy : y ≠ 0) : Ideal.div (x : EReal) (y : EReal) = ((x / y : ℝ) : EReal) := by
  have : (y : EReal) ≠ 0 := by exact_mod_cast hy
  rw [Ideal.div, if_neg this, div_eq_mul_inv, EReal.coe_mul, EReal.coe_inv]

/-- The logarithm of a positive real is real. -/
theorem log_coe (x : ℝ) (hx : 0 < x) : Ideal.log (x : EReal) = ((Real.log x : ℝ) : EReal) := by
  show (if x ≤ 0 then (⊥ : EReal) else (Real.log x : EReal)) = _
  rw [if_neg (not_le.2 hx)]

/-! ## One output capsule: weights on 144 rows -/

section Capsule

variable {ρ κ : Type} [Fintype ρ] [Fintype κ]

/-- The total weight. -/
def tot (w : ρ → EReal) : EReal := ∑ r, w r
/-- The weighted mean. -/
def mean (w v : ρ → EReal) : EReal := Ideal.div (∑ r, w r * v r) (tot w + eps)
/-- The weighted variance about the mean, plus the floor. -/
def var (w v : ρ → EReal) : EReal :=
  Ideal.div (∑ r, w r * ((v r - mean w v) * (v r - mean w v))) (tot w + eps) + flr
/-- The same from the weighted sums of the votes and of their squares. -/
def varK (w v : ρ → EReal) : EReal :=
  Ideal.div ((∑ r, (w r * v r) * v r - (two * mean w v) * ∑ r, w r * v r) + (mean w v * mean w v) * tot w) (tot w + eps) + flr
/-- The activation from the weights' total and the variances `sg`. -/
def actv (k ba bu S : EReal) (sg : κ → EReal) : EReal :=
  Ideal.logistic (k * (ba - ∑ a, (bu - half * Ideal.log (sg a + eps)) * S))
/-- A vote's log density plus the activation's logarithm. -/
def score (la : EReal) (sg μ v : κ → EReal) : EReal :=
  la + -(∑ a, (Ideal.log (tau * sg a) + Ideal.div ((v a - μ a) * (v a - μ a)) (two * sg a)))
/-- The same, the two parts summed apart. -/
def scoreK (la : EReal) (sg μ v : κ → EReal) : EReal :=
  (la - ∑ a, Ideal.log (tau * sg a)) - ∑ a, ((v a - μ a) * (v a - μ a)) * Ideal.div half (sg a)

variable {w v : ρ → EReal}

/-- What is supposed of weights and votes: real votes, weights that are not negative. -/
structure Good (w v : ρ → EReal) : Prop where
  w : ∀ r, 0 ≤ w r
  v : ∀ r, ∃ x : ℝ, v r = x

/-- The case of weights that are all reals. -/
structure GoodReal (w v : ρ → EReal) : Prop where
  w : ∀ r, ∃ x : ℝ, 0 ≤ x ∧ w r = x
  v : ∀ r, ∃ x : ℝ, v r = x

/-- A number that is not negative is a real one or infinity. -/
theorem top_or_real {x : EReal} (h : 0 ≤ x) : x = ⊤ ∨ ∃ y : ℝ, 0 ≤ y ∧ x = y := by
  induction x using EReal.rec with
  | bot => simp at h
  | top => exact .inl rfl
  | coe y => exact .inr ⟨y, by exact_mod_cast h, rfl⟩

/-- Either the total weight is infinite or every weight is a real. -/
theorem Good.cases (h : Good w v) : tot w + eps = ⊤ ∨ GoodReal w v := by
  by_cases ht : ∃ r, w r = ⊤
  · obtain ⟨r, hr⟩ := ht
    obtain ⟨e, _, ee⟩ := eps_pos
    have : tot w = ⊤ := top_le_iff.1 (hr ▸ Finset.single_le_sum (f := w) (fun i _ => h.w i) (Finset.mem_univ r))
    exact .inl (by rw [this, ee, EReal.top_add_coe])
  · exact .inr ⟨fun r => (top_or_real (h.w r)).resolve_left fun e => ht ⟨r, e⟩, h.v⟩

/-- A quotient by infinity is zero. -/
theorem div_top (x : EReal) : Ideal.div x ⊤ = 0 := by
  rw [Ideal.div, if_neg EReal.top_ne_zero, EReal.inv_top, mul_zero]

/-- A total of real weights, plus the small constant, is a positive real. -/
theorem tot_real (h : ∀ r, ∃ x : ℝ, 0 ≤ x ∧ w r = x) : ∃ x : ℝ, 0 < x ∧ tot w + eps = x := by
  choose f hf hw using h
  obtain ⟨e, he, ee⟩ := eps_pos
  refine ⟨(∑ r, f r) + e, add_pos_of_nonneg_of_pos (Finset.sum_nonneg fun r _ => hf r) he, ?_⟩
  rw [tot, ee, EReal.coe_add, ← coe_sum, Finset.sum_congr rfl fun r _ => hw r]

/-- The mean is a real. -/
theorem mean_real (h : Good w v) : ∃ x : ℝ, mean w v = x := by
  obtain ht | h := h.cases
  · exact ⟨0, by rw [mean, ht, div_top]; rfl⟩
  obtain ⟨T, hT, eT⟩ := tot_real h.w
  obtain ⟨hw, hv⟩ := h
  choose f hf hw using hw
  choose g hv using hv
  refine ⟨(∑ r, f r * g r) / T, ?_⟩
  rw [mean, eT, ← div_coe _ _ hT.ne', ← coe_sum]
  congr 1
  exact Finset.sum_congr rfl fun r _ => by rw [hw, hv, EReal.coe_mul]

/-- The variance is a positive real. -/
theorem var_real (h : Good w v) : ∃ x : ℝ, 0 < x ∧ var w v = x := by
  obtain ⟨μ, eμ⟩ := mean_real h
  obtain ht | h := h.cases
  · obtain ⟨fl, hfl, efl⟩ := flr_pos
    exact ⟨fl, hfl, by rw [var, ht, div_top, zero_add, efl]⟩
  obtain ⟨T, hT, eT⟩ := tot_real h.w
  obtain ⟨fl, hfl, efl⟩ := flr_pos
  obtain ⟨hw, hv⟩ := h
  choose f hf hw using hw
  choose g hv using hv
  refine ⟨(∑ r, f r * ((g r - μ) * (g r - μ))) / T + fl, ?_, ?_⟩
  · refine add_pos_of_nonneg_of_pos (div_nonneg (Finset.sum_nonneg fun r _ => mul_nonneg (hf r) (mul_self_nonneg _)) hT.le) hfl
  · rw [var, eT, efl, EReal.coe_add, ← div_coe _ _ hT.ne', ← coe_sum, eμ]
    congr 2
    exact Finset.sum_congr rfl fun r _ => by rw [hw, hv]; norm_cast

/-- The variance from the sums of squares is the variance. -/
theorem varK_eq (h : Good w v) : varK w v = var w v := by
  obtain ⟨μ, eμ⟩ := mean_real h
  obtain ht | h := h.cases
  · rw [varK, var, ht, div_top, div_top]
  obtain ⟨hw, hv⟩ := h
  choose f hf hw using hw
  choose g hv using hv
  rw [varK, var]
  congr 2
  rw [eμ, two_eq, tot]
  have e1 : ∑ r, (w r * v r) * v r = ((∑ r, (f r * g r) * g r : ℝ) : EReal) := by
    rw [← coe_sum]; exact Finset.sum_congr rfl fun r _ => by rw [hw, hv]; norm_cast
  have e2 : ∑ r, w r * v r = ((∑ r, f r * g r : ℝ) : EReal) := by
    rw [← coe_sum]; exact Finset.sum_congr rfl fun r _ => by rw [hw, hv]; norm_cast
  have e3 : ∑ r, w r = ((∑ r, f r : ℝ) : EReal) := by
    rw [← coe_sum]; exact Finset.sum_congr rfl fun r _ => by rw [hw]
  have e4 : ∑ r, w r * ((v r - μ) * (v r - μ)) = ((∑ r, f r * ((g r - μ) * (g r - μ)) : ℝ) : EReal) := by
    rw [← coe_sum]; exact Finset.sum_congr rfl fun r _ => by rw [hw, hv]; norm_cast
  rw [e1, e2, e3, e4]
  norm_cast
  rw [Finset.mul_sum, Finset.mul_sum, ← Finset.sum_sub_distrib, ← Finset.sum_add_distrib]
  exact Finset.sum_congr rfl fun r _ => by ring

/-- The two scores agree where the variances are positive reals and the means and votes are reals. -/
theorem scoreK_eq (la : EReal) {sg μ u : κ → EReal} (hs : ∀ a, ∃ x : ℝ, 0 < x ∧ sg a = x) (hμ : ∀ a, ∃ x : ℝ, μ a = x)
    (hu : ∀ a, ∃ x : ℝ, u a = x) : scoreK la sg μ u = score la sg μ u := by
  obtain ⟨t, ht, et⟩ := tau_pos
  choose s hs es using hs
  choose m em using hμ
  choose g eg using hu
  have e1 : ∑ a, Ideal.log (tau * sg a) = ((∑ a, Real.log (t * s a) : ℝ) : EReal) := by
    rw [← coe_sum]; exact Finset.sum_congr rfl fun a _ => by rw [et, es, ← EReal.coe_mul, log_coe _ (mul_pos ht (hs a))]
  have e2 : ∑ a, ((u a - μ a) * (u a - μ a)) * Ideal.div half (sg a)
      = ((∑ a, ((g a - m a) * (g a - m a)) * ((1 / 2) / s a) : ℝ) : EReal) := by
    rw [← coe_sum]
    exact Finset.sum_congr rfl fun a _ => by rw [half_eq, es, em, eg, div_coe _ _ (hs a).ne']; norm_cast
  have e3 : ∑ a, Ideal.div ((u a - μ a) * (u a - μ a)) (two * sg a)
      = ((∑ a, ((g a - m a) * (g a - m a)) * ((1 / 2) / s a) : ℝ) : EReal) := by
    rw [← coe_sum]
    refine Finset.sum_congr rfl fun a _ => ?_
    rw [two_eq, es, em, eg, ← EReal.coe_sub, ← EReal.coe_mul, ← EReal.coe_mul, div_coe _ _ (mul_pos two_pos (hs a)).ne']
    have := (hs a).ne'
    congr 1; field_simp
  rw [scoreK, score, Finset.sum_add_distrib, e1, e2, e3, ← EReal.coe_add, sub_eq_add_neg, sub_eq_add_neg, add_assoc]
  norm_cast
  congr 2; ring

/-- A score is the activation's logarithm plus a real. -/
theorem score_real (la : EReal) {sg μ u : κ → EReal} (hs : ∀ a, ∃ x : ℝ, 0 < x ∧ sg a = x) (hμ : ∀ a, ∃ x : ℝ, μ a = x)
    (hu : ∀ a, ∃ x : ℝ, u a = x) : ∃ x : ℝ, score la sg μ u = la + x := by
  obtain ⟨t, ht, et⟩ := tau_pos
  choose s hs es using hs
  choose m em using hμ
  choose g eg using hu
  refine ⟨-(∑ a, (Real.log (t * s a) + ((g a - m a) * (g a - m a)) / (2 * s a))), ?_⟩
  rw [score, EReal.coe_neg, ← coe_sum]
  congr 2
  refine Finset.sum_congr rfl fun a _ => ?_
  rw [et, two_eq, es, em, eg, ← EReal.coe_mul, ← EReal.coe_sub, ← EReal.coe_mul, ← EReal.coe_mul, log_coe _ (mul_pos ht (hs a)),
    div_coe _ _ (mul_pos two_pos (hs a)).ne', EReal.coe_add]

end Capsule

/-- The logarithm of a logistic is never `⊤`. -/
theorem log_logistic_ne_top (t : EReal) : Ideal.log (Ideal.logistic t) ≠ ⊤ := by
  have key : ∀ x : ℝ, Ideal.log (x : EReal) ≠ ⊤ := fun x => by
    show (if x ≤ 0 then (⊥ : EReal) else (Real.log x : EReal)) ≠ ⊤
    split
    · exact bot_ne_top
    · exact EReal.coe_ne_top _
  have one : (1 : EReal) = ((1 : ℝ) : EReal) := by norm_cast
  have main : ∀ y : EReal, ∃ x : ℝ, Ideal.div 1 (1 + Ideal.exp y) = x := fun y => by
    induction y using EReal.rec with
    | bot => exact ⟨1 / (1 + 0), by rw [show Ideal.exp ⊥ = ((0 : ℝ) : EReal) from rfl, one, ← EReal.coe_add, div_coe _ _ (by norm_num)]⟩
    | top =>
      refine ⟨0, ?_⟩
      rw [show Ideal.exp ⊤ = (⊤ : EReal) from rfl, one, EReal.coe_add_top, Ideal.div, if_neg EReal.top_ne_zero, EReal.inv_top, mul_zero]
      rfl
    | coe y =>
      refine ⟨1 / (1 + Real.exp y), ?_⟩
      rw [show Ideal.exp (y : EReal) = ((Real.exp y : ℝ) : EReal) from rfl, one, ← EReal.coe_add, div_coe _ _ (by positivity)]
  obtain ⟨x, hx⟩ := main (-t)
  rw [Ideal.logistic, hx]
  exact key x

/-- The exponential of a score less an upper bound of the scores is a real that is not negative. -/
theorem exp_sub_real {x y : EReal} (hx : x ≠ ⊤) (h : x ≤ y) : ∃ z : ℝ, 0 ≤ z ∧ Ideal.exp (x - y) = z := by
  induction x using EReal.rec with
  | top => exact absurd rfl hx
  | bot => exact ⟨0, le_refl _, by rw [EReal.bot_sub]; rfl⟩
  | coe x =>
    induction y using EReal.rec with
    | bot => exact absurd h (not_le.2 (EReal.bot_lt_coe x))
    | top => exact ⟨0, le_refl _, by rw [sub_eq_add_neg, EReal.neg_top, EReal.add_bot]; rfl⟩
    | coe y => exact ⟨Real.exp (x - y), (Real.exp_pos _).le, by rw [← EReal.coe_sub]; rfl⟩

/-! ## The two rounds -/

section Rounds

/-- How a variance is written. -/
abbrev VarForm := (Fin 144 → EReal) → (Fin 144 → EReal) → EReal
/-- How a score is written. -/
abbrev ScoreForm := EReal → (Fin 16 → EReal) → (Fin 16 → EReal) → (Fin 16 → EReal) → EReal

variable (vf : VarForm) (sf : ScoreForm)
variable (V : Fin 576 → Fin 144 → Fin 16 → Fin 16 → EReal) (A : Fin 576 → Fin 144 → EReal) (ba bu : Fin 16 → EReal)

/-- The first round's weights. -/
def w1 (n : Fin 576) (r : Fin 144) : EReal := sixt * A n r
/-- The first round's means. -/
def mu1 (n : Fin 576) (o a : Fin 16) : EReal := mean (w1 A n) fun r => V n r o a
/-- The first round's variances. -/
def sg1 (n : Fin 576) (o a : Fin 16) : EReal := vf (w1 A n) fun r => V n r o a
/-- The logarithms of the first round's activations. -/
def la1 (n : Fin 576) (o : Fin 16) : EReal := Ideal.log (actv temp1 (ba o) (bu o) (tot (w1 A n)) (sg1 vf V A n o))
/-- The votes' scores. -/
def sc (n : Fin 576) (r : Fin 144) (o : Fin 16) : EReal := sf (la1 vf V A ba bu n o) (sg1 vf V A n o) (mu1 V A n o) (V n r o)
/-- The greatest score. -/
def top : EReal := ⨆ x : Fin 576 × Fin 144 × Fin 16, sc vf sf V A ba bu x.1 x.2.1 x.2.2
/-- The exponentials of the scores less the greatest. -/
def ex (n : Fin 576) (r : Fin 144) (o : Fin 16) : EReal := Ideal.exp (sc vf sf V A ba bu n r o - top vf sf V A ba bu)
/-- Their total over the rows of one input capsule and the output capsules. -/
def cls (n : Fin 576) (c : ℕ) : EReal :=
  ∑ x ∈ Finset.univ.filter (fun x : Fin 144 × Fin 16 => x.1.val % 16 = c), ex vf sf V A ba bu n x.1 x.2
/-- The second round's weights. -/
def w2 (n : Fin 576) (o : Fin 16) (r : Fin 144) : EReal :=
  Ideal.div (ex vf sf V A ba bu n r o) (cls vf sf V A ba bu n (r.val % 16) + eps) * A n r
/-- The second round's means: the poses. -/
def mu2 (n : Fin 576) (o a : Fin 16) : EReal := mean (w2 vf sf V A ba bu n o) fun r => V n r o a
/-- The second round's variances. -/
def sg2 (n : Fin 576) (o a : Fin 16) : EReal := vf (w2 vf sf V A ba bu n o) fun r => V n r o a
/-- The second round's activations. -/
def act2 (n : Fin 576) (o : Fin 16) : EReal :=
  actv temp2 (ba o) (bu o) (tot (w2 vf sf V A ba bu n o)) (sg2 vf sf V A ba bu n o)

variable {V A}

/-- What is supposed of the arguments: real votes, activations that are not negative. -/
structure Tame (V : Fin 576 → Fin 144 → Fin 16 → Fin 16 → EReal) (A : Fin 576 → Fin 144 → EReal) : Prop where
  V : ∀ n r o a, ∃ x : ℝ, V n r o a = x
  A : ∀ n r, 0 ≤ A n r

/-- The first round's weights and votes are as supposed. -/
theorem good1 (h : Tame V A) (n : Fin 576) (o a : Fin 16) : Good (w1 A n) fun r => V n r o a where
  w r := by
    rw [w1, sixt_eq]
    exact mul_nonneg (by exact_mod_cast (by norm_num : (0 : ℝ) ≤ 1 / 16)) (h.A n r)
  v r := h.V n r o a

/-- The first round's variances agree. -/
theorem sg1_eq (h : Tame V A) : sg1 varK V A = sg1 var V A := by
  funext n o a; exact varK_eq (good1 h n o a)

/-- The logarithms of the first round's activations agree. -/
theorem la1_eq (h : Tame V A) : la1 varK V A ba bu = la1 var V A ba bu := by
  funext n o; rw [la1, la1, sg1_eq h]

/-- The scores agree. -/
theorem sc_eq (h : Tame V A) : sc varK scoreK V A ba bu = sc var score V A ba bu := by
  funext n r o
  rw [sc, sc, sg1_eq h, la1_eq _ _ h]
  exact scoreK_eq _ (fun a => var_real (good1 h n o a)) (fun a => mean_real (good1 h n o a)) (fun a => h.V n r o a)

/-- The exponentials agree. -/
theorem ex_eq (h : Tame V A) : ex varK scoreK V A ba bu = ex var score V A ba bu := by
  funext n r o
  rw [ex, ex, top, top, sc_eq _ _ h]

/-- The second round's weights agree. -/
theorem w2_eq (h : Tame V A) : w2 varK scoreK V A ba bu = w2 var score V A ba bu := by
  funext n o r
  rw [w2, w2, cls, cls, ex_eq _ _ h]

/-- The exponentials are reals that are not negative. -/
theorem ex_real (h : Tame V A) (n : Fin 576) (r : Fin 144) (o : Fin 16) :
    ∃ x : ℝ, 0 ≤ x ∧ ex var score V A ba bu n r o = x := by
  refine exp_sub_real ?_ (le_iSup (fun x : Fin 576 × Fin 144 × Fin 16 => sc var score V A ba bu x.1 x.2.1 x.2.2) (n, r, o))
  obtain ⟨x, hx⟩ := score_real (la1 var V A ba bu n o) (fun a => var_real (good1 h n o a)) (fun a => mean_real (good1 h n o a))
    (fun a => h.V n r o a)
  have : sc var score V A ba bu n r o = la1 var V A ba bu n o + x := hx
  rw [this]
  exact (EReal.add_lt_top (log_logistic_ne_top _) (EReal.coe_ne_top x)).ne

/-- The second round's weights and votes are as supposed. -/
theorem good2 (h : Tame V A) (n : Fin 576) (o a : Fin 16) : Good (w2 var score V A ba bu n o) fun r => V n r o a where
  w r := by
    obtain ⟨x, hx, e⟩ := ex_real ba bu h n r o
    obtain ⟨p, hp, ep⟩ := eps_pos
    have hc : ∃ t : ℝ, 0 ≤ t ∧ cls var score V A ba bu n (r.val % 16) = t := by
      choose f hf ef using fun x : Fin 144 × Fin 16 => ex_real ba bu h n x.1 x.2
      refine ⟨∑ x ∈ Finset.univ.filter (fun x : Fin 144 × Fin 16 => x.1.val % 16 = r.val % 16), f x, Finset.sum_nonneg fun x _ => hf x, ?_⟩
      rw [cls, ← coe_sum]
      exact Finset.sum_congr rfl fun x _ => ef x
    obtain ⟨t, ht, et⟩ := hc
    have hp' : 0 < t + p := by linarith
    rw [w2, e, et, ep, ← EReal.coe_add, div_coe _ _ hp'.ne']
    exact mul_nonneg (by exact_mod_cast div_nonneg hx hp'.le) (h.A n r)
  v r := h.V n r o a

/-- The poses agree. -/
theorem mu2_eq (h : Tame V A) : mu2 varK scoreK V A ba bu = mu2 var score V A ba bu := by
  funext n o a; rw [mu2, mu2, w2_eq _ _ h]

/-- The activations agree. -/
theorem act2_eq (h : Tame V A) : act2 varK scoreK V A ba bu = act2 var score V A ba bu := by
  have : sg2 varK scoreK V A ba bu = sg2 var score V A ba bu := by
    funext n o a; rw [sg2, sg2, w2_eq _ _ h]; exact varK_eq (good2 ba bu h n o a)
  funext n o; rw [act2, act2, w2_eq _ _ h, this]

end Rounds

end Cert.Caps

end
-- ==== Proof.KernelIdealPayload.lean ====
/-
What one block of the kernel computes over extended reals, element by element: the rounds of `Caps` at the block's positions.
-/
module

public import proofs.«01_k».proof.Proof.KernelIdealPhase1
public import proofs.«01_k».proof.Proof.KernelIdealPhase2
public import proofs.«01_k».proof.Proof.Caps
public import Idealize.ShloMosaic.Lib.Pointwise

@[expose] public section

set_option maxRecDepth 8192

noncomputable section

namespace Cert.KernelIdeal.Value

open Cert.KernelIdeal Cert.KernelIdeal.Gen Cert.KernelIdeal.Em Cert.Caps
open Idealize.ShloMosaic
open scoped BigOperators

/-! ## Columns: entry `a` of output capsule `o` is column `16 o + a` -/

/-- The column of entry `a` of output capsule `o`. -/
def col (o a : Fin 16) : Fin 256 := ⟨o.val * 16 + a.val, by omega⟩

/-- Output capsule and entry of a column. -/
def colEquiv : Fin 16 × Fin 16 ≃ Fin 256 where
  toFun x := col x.1 x.2
  invFun c := (⟨c.val / 16, by omega⟩, ⟨c.val % 16, by omega⟩)
  left_inv x := by ext <;> simp only [col] <;> omega
  right_inv c := by ext; simp only [col]; omega

/-- One where the proposition holds, else zero. -/
abbrev ind (p : Prop) [Decidable p] : EReal := if p then 1 else 0

/-- A sum over the columns against the columns of one output capsule. -/
theorem sum_col (f : Fin 256 → EReal) (o : Fin 16) :
    ∑ c : Fin 256, f c * ind (c.val / 16 = o.val) = ∑ a : Fin 16, f (col o a) := by
  rw [← Equiv.sum_comp colEquiv, Fintype.sum_prod_type, Finset.sum_eq_single o]
  · refine Finset.sum_congr rfl fun a _ => ?_
    show f (col o a) * _ = _
    rw [ind, if_pos (by simp only [colEquiv, col, Equiv.coe_fn_mk]; omega), mul_one]
  · intro b _ hb
    refine Finset.sum_eq_zero fun a _ => ?_
    rw [ind, if_neg (fun h => hb (Fin.ext (by simp only [colEquiv, col, Equiv.coe_fn_mk] at h; omega))), mul_zero]
  · intro h; exact absurd (Finset.mem_univ o) h

/-- A sum over the output capsules against the capsule of one column. -/
theorem sum_out (f : Fin 16 → EReal) (o a : Fin 16) :
    ∑ k : Fin 16, f k * ind ((col o a).val / 16 = k.val) = f o := by
  rw [Finset.sum_eq_single o]
  · rw [ind, if_pos (by simp only [col]; omega), mul_one]
  · intro b _ hb
    rw [ind, if_neg (fun h => hb (Fin.ext (by simp only [col] at h; omega))), mul_zero]
  · intro h; exact absurd (Finset.mem_univ o) h

/-! ## The votes' transposition inside a block -/

/-- The number a comparison of column `c` with `16 k + j` is read as. -/
theorem pick (c : Fin 256) (k : Fin 16) (j : ℕ) (hj : j < 16) :
    (FloatOps.sitofp (F := Ideal) .f32 (BitVec.setWidth 32 (IntOp.cmpi .eq (BitVec.ofNat 32 c.val)
      (IntOp.addi (IntOp.muli (BitVec.ofNat 32 k.val) 16#32) (BitVec.ofNat 32 j)))) : EReal) = ind (c.val = k.val * 16 + j) := by
  have h : (BitVec.ofNat 32 c.val = IntOp.addi (IntOp.muli (BitVec.ofNat 32 k.val) 16#32) (BitVec.ofNat 32 j)) ↔ c.val = k.val * 16 + j := by
    show (BitVec.ofNat 32 c.val = BitVec.ofNat 32 k.val * 16#32 + BitVec.ofNat 32 j) ↔ _
    rw [← BitVec.toNat_inj]
    simp only [BitVec.toNat_ofNat, BitVec.toNat_add, BitVec.toNat_mul]
    omega
  by_cases hc : c.val = k.val * 16 + j
  · rw [ind, if_pos hc, h.2 hc]
    simp [IntOp.cmpi, FloatOps.sitofp]
  · rw [ind, if_neg hc]
    have : (BitVec.ofNat 32 c.val == IntOp.addi (IntOp.muli (BitVec.ofNat 32 k.val) 16#32) (BitVec.ofNat 32 j)) = false :=
      beq_false_of_ne (mt h.1 hc)
    simp [IntOp.cmpi, FloatOps.sitofp, this]

/-- Entry `j` of the votes' pose axis, the output capsules in columns, put in every sixteenth column from column `j`. -/
theorem placed (x : FVec Ideal S8x144x16x16 .f32) (j : ℕ) (hj : j < 16) (h : S8x144x16x16.Slices ![0, 0, j, 0] S8x144x1x16)
    (n : Fin 8) (r : Fin 144) (o a : Fin 16) (hR : n.val * 144 + r.val < 1152) :
    matmul dot_S1152x16_S16x256_S1152x256_1_0_0_1_n_n none
      (shapeCast S1152x16 (shapeCast S8x144x16 (extractStridedSlice S8x144x1x16 ![0, 0, j, 0] x h) shapeCasts_S8x144x1x16_S8x144x16) shapeCasts_S8x144x16_S1152x16)
      (sitofp (F := Ideal) .f32 (extui 32 (cmpi .eq (iota .tc S16x256 32 [1] iota_S16x256_d1_w32)
        (addi (muli (iota .tc S16x256 32 [0] iota_S16x256_d0_w32) (broadcast S16x256 16#32)) (broadcast S16x256 (BitVec.ofNat 32 j)))) natLt_1_32))
      (constant S1152x256 .f32 0x00000000#32) (ix2 ⟨n.val * 144 + r.val, hR⟩ (col o a)) = if a.val = j then x (ix4 n r a o) else 0 := by
  pointwise
  rw [Finset.sum_congr rfl fun k _ => by rw [pick _ k j hj]]
  split
  · next e =>
    rw [Finset.sum_eq_single o]
    · rw [ind, if_pos (by simp only [col]; omega), mul_one]
      congr 1
      have e1 : (⟨(n.val * 144 + r.val) / 144, by omega⟩ : Fin 8) = n := Fin.ext (by simp only; omega)
      have e2 : (⟨(n.val * 144 + r.val) % 144, by omega⟩ : Fin 144) = r := Fin.ext (by simp only; omega)
      have e3 : (⟨j, hj⟩ : Fin 16) = a := Fin.ext e.symm
      simp only [e1, e2, e3]
    · intro b _ hb
      rw [ind, if_neg (fun h => hb (Fin.ext (by simp only [col] at h; omega))), mul_zero]
    · intro h; exact absurd (Finset.mem_univ o) h
  · next e =>
    refine Finset.sum_eq_zero fun k _ => ?_
    rw [ind, if_neg (fun h => e (by simp only [col] at h; omega)), mul_zero]

/-- A block's votes with output capsule and entry in one axis. -/
theorem votes0_at (x : Vec Ideal S8x144x16x16 .f32) (n : Fin 8) (r : Fin 144) (o a : Fin 16) :
    votes0 x (ix3 n r (col o a)) = x (ix4 n r a o) := by
  have h1 : k0_pay1 x = x := by funext j; idx_vars j; pointwise [k0_pay1]
  have hR : n.val * 144 + r.val < 1152 := by omega
  have cast : ∀ y : FVec Ideal S1152x256 .f32, shapeCast S8x144x256 y shapeCasts_S1152x256_S8x144x256 (ix3 n r (col o a)) = y (ix2 ⟨n.val * 144 + r.val, hR⟩ (col o a)) := fun y => by
    pointwise
  unfold votes0 k0_pay12
  rw [cast]
  unfold k0_pay9 k0_pay7 k0_pay4 k0_pay2 k0_pay3 k0_pay5 k0_pay6 k0_pay8 k0_pay10 k0_pay11
  rw [h1]
  simp only [ValueIdx.addf_apply]
  rw [placed x 0 (by decide), placed x 1 (by decide), placed x 2 (by decide), placed x 3 (by decide), placed x 4 (by decide), placed x 5 (by decide),
    placed x 6 (by decide), placed x 7 (by decide), placed x 8 (by decide), placed x 9 (by decide), placed x 10 (by decide), placed x 11 (by decide),
    placed x 12 (by decide), placed x 13 (by decide), placed x 14 (by decide), placed x 15 (by decide)]
  generalize x (ix4 n r a o) = y
  fin_cases a <;> simp

/-! ## A block of the first phase -/

section Phase1

variable (V : Fin 576 → Fin 144 → Fin 16 → Fin 16 → EReal) (A : Fin 576 → Fin 144 → EReal) (ba bu : Fin 16 → EReal)

/-- The blocks the first phase reads at a point hold votes and activations of the positions `pos`, the biases, and the columns' capsules. -/
structure Holds1 (pos : Fin 8 → Fin 576) (x0 : Vec Ideal S8x144x16x16 .f32) (x1 : Vec Ideal S8x144 .f32) (x2 : Vec Ideal S1x256 .f32)
    (x3 : Vec Ideal S1x16 .f32) (x4 : Vec Ideal S256x16 .f32) : Prop where
  votes : ∀ n r o a, x0 (ix4 n r a o) = V (pos n) r o a
  acts : ∀ n r, x1 (ix2 n r) = A (pos n) r
  bu : ∀ o a, x2 (ix2 0 (col o a)) = bu o
  ba : ∀ o, x3 (ix2 0 o) = ba o
  cols : ∀ c o, x4 (ix2 c o) = ind (c.val / 16 = o.val)

variable {V A ba bu} {pos : Fin 8 → Fin 576} {x0 : Vec Ideal S8x144x16x16 .f32} {x1 : Vec Ideal S8x144 .f32} {x2 : Vec Ideal S1x256 .f32}
  {x3 : Vec Ideal S1x16 .f32} {x4 : Vec Ideal S256x16 .f32} (h : Holds1 V A ba bu pos x0 x1 x2 x3 x4)
include h

/-- The block's votes. -/
theorem v_at (n : Fin 8) (r : Fin 144) (o a : Fin 16) : votes0 x0 (ix3 n r (col o a)) = V (pos n) r o a := by
  rw [votes0_at, h.votes]

/-- The block's weights. -/
theorem w_at (n : Fin 8) (r : Fin 144) : k0_pay16 (k0_pay13 x1) (ix3 n r 0) = w1 A (pos n) r := by
  pointwise [k0_pay16, k0_pay13]
  rw [h.acts, mul_comm]
  rfl

/-- The block's means. -/
theorem mu0_at (n : Fin 8) (o a : Fin 16) : mu0 x0 x1 (ix2 n (col o a)) = mu1 V A (pos n) o a := by
  have hw := w_at h
  have hv := v_at h
  unfold mu0 k0_pay20 k0_pay19 k0_pay18 k0_pay17
  generalize k0_pay16 (k0_pay13 x1) = w at *
  generalize votes0 x0 = v at *
  pointwise
  simp only [hw, hv]
  rfl

/-- The block's variances. -/
theorem sg0_at (n : Fin 8) (o a : Fin 16) : sg0 x0 x1 (ix2 n (col o a)) = sg1 varK V A (pos n) o a := by
  have hw := w_at h
  have hv := v_at h
  have hm := mu0_at h
  unfold mu0 at hm
  unfold sg0 k0_pay21 k0_pay19 k0_pay18 k0_pay17
  generalize k0_pay20 (votes0 x0) (k0_pay13 x1) = m at *
  generalize k0_pay16 (k0_pay13 x1) = w at *
  generalize votes0 x0 = v at *
  pointwise
  simp only [hw, hv, hm]
  rfl

/-- The arguments of the block's activations' logistic. -/
theorem arg0_at (n : Fin 8) (o : Fin 16) : arg0 x0 x1 x2 x3 x4 (ix2 n o)
    = temp1 * (ba o - ∑ a, (bu o - half * Ideal.log (sg1 varK V A (pos n) o a + eps)) * tot (w1 A (pos n))) := by
  have hw := w_at h
  have hs := sg0_at h
  unfold sg0 at hs
  unfold arg0 k0_pay22 k0_pay17 k0_pay14 k0_pay15
  generalize k0_pay21 (votes0 x0) (k0_pay13 x1) = s at *
  generalize k0_pay16 (k0_pay13 x1) = w at *
  pointwise
  simp only [h.cols, h.ba, hw]
  rw [sum_col]
  simp only [hs, h.bu]
  rfl

/-- The logarithms of the block's activations. -/
theorem la0_at (n : Fin 8) (o : Fin 16) : la0 x0 x1 x2 x3 x4 (ix2 n o) = la1 varK V A ba bu (pos n) o := by
  unfold la0 k0_pay23
  show Ideal.log (Ideal.logistic (arg0 x0 x1 x2 x3 x4 (ix2 n o))) = _
  rw [arg0_at h]
  rfl

/-- The running maximum after the block. -/
theorem gm0_at (i : grid0.Coords) (g : Vec Ideal S1x1 .f32) : gm0 i x0 x1 x2 x3 x4 g (ix2 0 0)
    = max (if (i 0).val = 0 then ⊥ else g (ix2 0 0)) (⨆ x : Fin 8 × Fin 144 × Fin 16, sc varK scoreK V A ba bu (pos x.1) x.2.1 x.2.2) := by
  have hv := v_at h
  have hm := mu0_at h
  have hs := sg0_at h
  have hl := la0_at h
  unfold la0 at hl
  unfold gm0 k0_pay24 k0_pay14
  generalize mu0 x0 x1 = m at *
  generalize sg0 x0 x1 = s at *
  generalize k0_pay23 (arg0 x0 x1 x2 x3 x4) = l at *
  generalize votes0 x0 = v at *
  pointwise
  have hb : Ideal.ofBits .f32 0xFF800000#32 = ⊥ := by simp [Ideal.ofBits, Ideal.ieee]
  rw [hb]
  congr 1
  · have hi : (i 0).val < 72 := (i 0).isLt
    by_cases h0 : (i 0).val = 0
    · rw [if_pos h0, h0]; rfl
    · rw [if_neg h0]
      have : (BitVec.ofNat 32 (i 0).val == 0#32) = false := beq_false_of_ne fun e => h0 (by
        have := congrArg BitVec.toNat e
        simp only [BitVec.toNat_ofNat] at this
        omega)
      simp [Scalar.select, Scalar.cmpi, IntOp.cmpi, this]
  · have key : ∀ (n : Fin 8) (r : Fin 144) (o : Fin 16),
        l (ix2 n o) - ∑ c, Ideal.log (Ideal.ofBits FTy.f32 0x40C90FDB#32 * s (ix2 n c)) * x4 (ix2 c o)
          - ∑ c, (v (ix3 n r c) - m (ix2 n c)) * (v (ix3 n r c) - m (ix2 n c)) * Ideal.div (Ideal.ofBits FTy.f32 0x3F000000#32) (s (ix2 n c)) * x4 (ix2 c o)
        = sc varK scoreK V A ba bu (pos n) r o := fun n r o => by
      simp only [h.cols]
      rw [sum_col (fun c => Ideal.log (Ideal.ofBits FTy.f32 0x40C90FDB#32 * s (ix2 n c))), sum_col]
      simp only [hs, hm, hv, hl]
      rfl
    have gen : ∀ f : S1x8x144x16.Idx → EReal, (∀ n r o, f (ix4 0 n r o) = sc varK scoreK V A ba bu (pos n) r o) →
        Finset.sup {i | reduces_S1x8x144x16_S1.drop i = ix1 0} f
          = ⨆ x : Fin 8 × Fin 144 × Fin 16, sc varK scoreK V A ba bu (pos x.1) x.2.1 x.2.2 := fun f hf => by
      refine le_antisymm (Finset.sup_le fun x _ => ?_) (iSup_le fun x => ?_)
      · obtain ⟨z, n, r, o, rfl⟩ : ∃ (z : Fin 1) (n : Fin 8) (r : Fin 144) (o : Fin 16), x = ix4 z n r o := ⟨x 0, x 1, x 2, x 3, eq_ix4 x⟩
        obtain rfl : z = 0 := Subsingleton.elim _ _
        rw [hf]
        exact le_iSup (fun x : Fin 8 × Fin 144 × Fin 16 => sc varK scoreK V A ba bu (pos x.1) x.2.1 x.2.2) (n, r, o)
      · rw [← hf]
        exact Finset.le_sup (f := f) (Finset.mem_filter.2 ⟨Finset.mem_univ _, by funext k; fin_cases k; exact Subsingleton.elim (α := Fin 1) _ _⟩)
    exact gen _ key

end Phase1

/-! ## A block of the second phase -/

/-- Sums over the output capsules, gathered by input capsule and read back at a row. -/
theorem sum_row (f : Fin 144 → Fin 16 → EReal) (r : Fin 144) :
    ∑ k : Fin 16, (∑ q : Fin 144, (∑ o : Fin 16, f q o) * ind (q.val % 16 = k.val)) * ind (r.val % 16 = k.val)
      = ∑ x ∈ Finset.univ.filter (fun x : Fin 144 × Fin 16 => x.1.val % 16 = r.val % 16), f x.1 x.2 := by
  rw [Finset.sum_eq_single (⟨r.val % 16, by omega⟩ : Fin 16)]
  · rw [ind, if_pos rfl, mul_one, Finset.sum_filter, Fintype.sum_prod_type]
    refine Finset.sum_congr rfl fun q _ => ?_
    by_cases e : q.val % 16 = r.val % 16
    · rw [ind, if_pos e, mul_one]
      exact Finset.sum_congr rfl fun o _ => by rw [if_pos e]
    · rw [ind, if_neg e, mul_zero]
      exact (Finset.sum_eq_zero fun o _ => by rw [if_neg e]).symm
  · intro b _ hb
    rw [ind, if_neg (fun e => hb (Fin.ext e.symm)), mul_zero]
  · intro e; exact absurd (Finset.mem_univ _) e

section Phase2

variable (V : Fin 576 → Fin 144 → Fin 16 → Fin 16 → EReal) (A : Fin 576 → Fin 144 → EReal) (ba bu : Fin 16 → EReal)

/-- The blocks the second phase reads at a point hold votes, activations and the first phase's results of the positions `pos`, the greatest
score, the biases, and which columns and rows belong to which capsule. -/
structure Holds2 (pos : Fin 16 → Fin 576) (x0 : Vec Ideal S16x144x256 .f32) (x1 : Vec Ideal S16x144 .f32) (x2 : Vec Ideal S16x256 .f32)
    (x3 : Vec Ideal S16x256 .f32) (x4 : Vec Ideal S16x16 .f32) (x5 : Vec Ideal S1x1 .f32) (x6 : Vec Ideal S1x256 .f32) (x7 : Vec Ideal S1x16 .f32)
    (x8 : Vec Ideal S256x16 .f32) (x9 : Vec Ideal S16x256 .f32) (x10 : Vec Ideal S144x16 .f32) (x11 : Vec Ideal S16x144 .f32) : Prop where
  votes : ∀ n r o a, x0 (ix3 n r (col o a)) = V (pos n) r o a
  acts : ∀ n r, x1 (ix2 n r) = A (pos n) r
  means : ∀ n o a, x2 (ix2 n (col o a)) = mu1 V A (pos n) o a
  vars : ∀ n o a, x3 (ix2 n (col o a)) = sg1 varK V A (pos n) o a
  logs : ∀ n o, x4 (ix2 n o) = la1 varK V A ba bu (pos n) o
  top : x5 (ix2 0 0) = Caps.top varK scoreK V A ba bu
  bu : ∀ o a, x6 (ix2 0 (col o a)) = bu o
  ba : ∀ o, x7 (ix2 0 o) = ba o
  cols : ∀ c o, x8 (ix2 c o) = ind (c.val / 16 = o.val)
  cols' : ∀ o c, x9 (ix2 o c) = ind (c.val / 16 = o.val)
  rows : ∀ r k, x10 (ix2 r k) = ind (r.val % 16 = k.val)
  rows' : ∀ k r, x11 (ix2 k r) = ind (r.val % 16 = k.val)

variable {V A ba bu} {pos : Fin 16 → Fin 576} {x0 : Vec Ideal S16x144x256 .f32} {x1 : Vec Ideal S16x144 .f32} {x2 : Vec Ideal S16x256 .f32}
  {x3 : Vec Ideal S16x256 .f32} {x4 : Vec Ideal S16x16 .f32} {x5 : Vec Ideal S1x1 .f32} {x6 : Vec Ideal S1x256 .f32} {x7 : Vec Ideal S1x16 .f32}
  {x8 : Vec Ideal S256x16 .f32} {x9 : Vec Ideal S16x256 .f32} {x10 : Vec Ideal S144x16 .f32} {x11 : Vec Ideal S16x144 .f32}
  (h : Holds2 V A ba bu pos x0 x1 x2 x3 x4 x5 x6 x7 x8 x9 x10 x11)
include h

/-- The block's assignments times activations. -/
theorem w2_at (n : Fin 16) (r : Fin 144) (o : Fin 16) :
    k1_pay15 (k1_pay3 x1) (k1_pay4 x3) (k1_pay5 x4) (k1_pay6 x5) (k1_pay7 x8) (k1_pay9 x10) (k1_pay10 x11) (k1_pay13 x0 x2) (k1_pay14 x3) (ix3 n r o)
      = w2 varK scoreK V A ba bu (pos n) o r := by
  pointwise [k1_pay15, k1_pay3, k1_pay4, k1_pay5, k1_pay6, k1_pay7, k1_pay9, k1_pay10, k1_pay13, k1_pay2, k1_pay14]
  have key : ∀ (n : Fin 16) (r : Fin 144) (o : Fin 16), Ideal.exp
      (x4 (ix2 n o) - ∑ c, Ideal.log (Ideal.ofBits FTy.f32 0x40C90FDB#32 * x3 (ix2 n c)) * x8 (ix2 c o)
          - ∑ c, (x0 (ix3 n r c) - x2 (ix2 n c)) * (x0 (ix3 n r c) - x2 (ix2 n c)) * Ideal.div (Ideal.ofBits FTy.f32 0x3F000000#32) (x3 (ix2 n c)) * x8 (ix2 c o)
          - x5 (ix2 0 0))
        = ex varK scoreK V A ba bu (pos n) r o := fun n r o => by
      simp only [h.cols]
      rw [sum_col (fun c => Ideal.log (Ideal.ofBits FTy.f32 0x40C90FDB#32 * x3 (ix2 n c))), sum_col]
      simp only [h.votes, h.means, h.vars, h.logs, h.top]
      rfl
  simp only [key, h.rows, h.rows', h.acts]
  rw [sum_row]
  rfl

/-- The block's poses. -/
theorem pose1_at (n : Fin 16) (o a : Fin 16) :
    pose1 x0 x1 x2 x3 x4 x5 x8 x9 x10 x11 (ix2 n (col o a)) = mu2 varK scoreK V A ba bu (pos n) o a := by
  have hw := w2_at h
  unfold pose1 k1_pay20 k1_pay19 k1_pay18 k1_pay17 k1_pay16 k1_pay2 k1_pay8
  generalize k1_pay15 (k1_pay3 x1) (k1_pay4 x3) (k1_pay5 x4) (k1_pay6 x5) (k1_pay7 x8) (k1_pay9 x10) (k1_pay10 x11) (k1_pay13 x0 x2) (k1_pay14 x3) = w at *
  pointwise
  simp only [h.cols', hw, h.votes, sum_out]
  rfl

/-- The block's activations. -/
theorem act1_at (n : Fin 16) (o : Fin 16) :
    act1 x0 x1 x2 x3 x4 x5 x8 x9 x10 x11 x6 x7 (ix2 n o) = act2 varK scoreK V A ba bu (pos n) o := by
  have hw := w2_at h
  have hm := pose1_at h
  unfold pose1 at hm
  unfold act1 k1_pay1 k1_pay22 k1_pay21 k1_pay17 k1_pay16
  generalize k1_pay20 (k1_pay2 x0) (k1_pay3 x1) (k1_pay4 x3) (k1_pay5 x4) (k1_pay6 x5) (k1_pay7 x8) (k1_pay8 x9) (k1_pay9 x10) (k1_pay10 x11) (k1_pay13 x0 x2) (k1_pay14 x3) = m at *
  unfold k1_pay19 k1_pay18
  generalize k1_pay15 (k1_pay3 x1) (k1_pay4 x3) (k1_pay5 x4) (k1_pay6 x5) (k1_pay7 x8) (k1_pay9 x10) (k1_pay10 x11) (k1_pay13 x0 x2) (k1_pay14 x3) = w at *
  pointwise [k1_pay2, k1_pay7, k1_pay8, k1_pay11, k1_pay12]
  simp only [h.cols, h.ba]
  rw [sum_col]
  simp only [h.cols', hw, h.votes, sum_out, h.bu, hm]
  rfl

end Phase2

end Cert.KernelIdeal.Value
-- ==== Proof.ReferenceValue.lean ====
/-
The reference's results over extended reals, element by element: the two rounds of `Caps` with the plain variance and score.
-/
module

public import proofs.«01_k».proof.Proof.ReferenceLine
public import proofs.«01_k».proof.Proof.Caps

@[expose] public section

set_option maxRecDepth 8192

noncomputable section

namespace Cert.ReferenceIdeal.Value

open Cert.ReferenceIdeal Cert.ReferenceIdeal.Gen Cert.ReferenceIdeal.Line Cert.Caps
open Idealize.ShloMosaic Idealize.ShloMosaic.ValueIdx
open scoped BigOperators

/-! ## Indices: position `n`, row `r` of the window, output capsule `o`, entry `a` of the pose -/

/-- Of the votes. -/
def ixF (n : Fin 576) (r : Fin 144) (o a : Fin 16) : S4x12x12x3x3x16x16x4x4.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨r.val / 48, by have := r.isLt; show _ < 3; omega⟩
  | ⟨4, _⟩ => ⟨r.val / 16 % 3, by show _ < 3; omega⟩
  | ⟨5, _⟩ => ⟨r.val % 16, by show _ < 16; omega⟩
  | ⟨6, _⟩ => ⟨o.val, o.isLt⟩
  | ⟨7, _⟩ => ⟨a.val / 4, by have := a.isLt; show _ < 4; omega⟩
  | ⟨8, _⟩ => ⟨a.val % 4, by show _ < 4; omega⟩
/-- Of an assignment. -/
def ixS (n : Fin 576) (r : Fin 144) (o : Fin 16) : S4x12x12x3x3x16x16x1x1.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨r.val / 48, by have := r.isLt; show _ < 3; omega⟩
  | ⟨4, _⟩ => ⟨r.val / 16 % 3, by show _ < 3; omega⟩
  | ⟨5, _⟩ => ⟨r.val % 16, by show _ < 16; omega⟩
  | ⟨6, _⟩ => ⟨o.val, o.isLt⟩
  | ⟨7, _⟩ => ⟨0, Nat.one_pos⟩
  | ⟨8, _⟩ => ⟨0, Nat.one_pos⟩
/-- Of the poses. -/
def ixP (n : Fin 576) (o a : Fin 16) : S4x12x12x1x1x1x16x4x4.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨0, Nat.one_pos⟩
  | ⟨4, _⟩ => ⟨0, Nat.one_pos⟩
  | ⟨5, _⟩ => ⟨0, Nat.one_pos⟩
  | ⟨6, _⟩ => ⟨o.val, o.isLt⟩
  | ⟨7, _⟩ => ⟨a.val / 4, by have := a.isLt; show _ < 4; omega⟩
  | ⟨8, _⟩ => ⟨a.val % 4, by show _ < 4; omega⟩
/-- Of the output activations. -/
def ixO (n : Fin 576) (o : Fin 16) : S4x12x12x1x1x1x16x1x1.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨0, Nat.one_pos⟩
  | ⟨4, _⟩ => ⟨0, Nat.one_pos⟩
  | ⟨5, _⟩ => ⟨0, Nat.one_pos⟩
  | ⟨6, _⟩ => ⟨o.val, o.isLt⟩
  | ⟨7, _⟩ => ⟨0, Nat.one_pos⟩
  | ⟨8, _⟩ => ⟨0, Nat.one_pos⟩
/-- Of the input activations. -/
def ixA (n : Fin 576) (r : Fin 144) : S4x12x12x3x3x16x1x1x1.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨r.val / 48, by have := r.isLt; show _ < 3; omega⟩
  | ⟨4, _⟩ => ⟨r.val / 16 % 3, by show _ < 3; omega⟩
  | ⟨5, _⟩ => ⟨r.val % 16, by show _ < 16; omega⟩
  | ⟨6, _⟩ => ⟨0, Nat.one_pos⟩
  | ⟨7, _⟩ => ⟨0, Nat.one_pos⟩
  | ⟨8, _⟩ => ⟨0, Nat.one_pos⟩
/-- Of the biases. -/
def ixB (o : Fin 16) : S1x1x1x1x1x1x16x1x1.Idx := fun k => match k with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨0, Nat.one_pos⟩
  | ⟨5, _⟩ => ⟨0, Nat.one_pos⟩
  | ⟨6, _⟩ => ⟨o.val, o.isLt⟩
  | ⟨7, _⟩ => ⟨0, Nat.one_pos⟩
  | ⟨8, _⟩ => ⟨0, Nat.one_pos⟩

/-! ## A broadcast read at an index -/

section Broadcast

variable {α : Type}

/-- Shares by row and output capsule, read at a vote. -/
theorem bFS (x : S4x12x12x3x3x16x16x1x1.Idx → α) (n : Fin 576) (r : Fin 144) (o a : Fin 16) :
    broadcastInDim S4x12x12x3x3x16x16x4x4 ![0, 1, 2, 3, 4, 5, 6, 7, 8] bcast_S4x12x12x3x3x16x16x1x1_S4x12x12x3x3x16x16x4x4_0_1_2_3_4_5_6_7_8 x
      (ixF n r o a) = x (ixS n r o) := by
  refine congrArg x (funext fun k => ?_)
  fin_cases k <;> rfl

/-- Poses, read at a vote. -/
theorem bFP (x : S4x12x12x1x1x1x16x4x4.Idx → α) (n : Fin 576) (r : Fin 144) (o a : Fin 16) :
    broadcastInDim S4x12x12x3x3x16x16x4x4 ![0, 1, 2, 3, 4, 5, 6, 7, 8] bcast_S4x12x12x1x1x1x16x4x4_S4x12x12x3x3x16x16x4x4_0_1_2_3_4_5_6_7_8 x
      (ixF n r o a) = x (ixP n o a) := by
  refine congrArg x (funext fun k => ?_)
  fin_cases k <;> rfl

/-- Activations, read at a row and output capsule. -/
theorem bSA (x : S4x12x12x3x3x16x1x1x1.Idx → α) (n : Fin 576) (r : Fin 144) (o : Fin 16) :
    broadcastInDim S4x12x12x3x3x16x16x1x1 ![0, 1, 2, 3, 4, 5, 6, 7, 8] bcast_S4x12x12x3x3x16x1x1x1_S4x12x12x3x3x16x16x1x1_0_1_2_3_4_5_6_7_8 x
      (ixS n r o) = x (ixA n r) := by
  refine congrArg x (funext fun k => ?_)
  fin_cases k <;> rfl

/-- Output activations, read at a row and output capsule. -/
theorem bSO (x : S4x12x12x1x1x1x16x1x1.Idx → α) (n : Fin 576) (r : Fin 144) (o : Fin 16) :
    broadcastInDim S4x12x12x3x3x16x16x1x1 ![0, 1, 2, 3, 4, 5, 6, 7, 8] bcast_S4x12x12x1x1x1x16x1x1_S4x12x12x3x3x16x16x1x1_0_1_2_3_4_5_6_7_8 x
      (ixS n r o) = x (ixO n o) := by
  refine congrArg x (funext fun k => ?_)
  fin_cases k <;> rfl

/-- Output activations, read at a pose's entry. -/
theorem bPO (x : S4x12x12x1x1x1x16x1x1.Idx → α) (n : Fin 576) (o a : Fin 16) :
    broadcastInDim S4x12x12x1x1x1x16x4x4 ![0, 1, 2, 3, 4, 5, 6, 7, 8] bcast_S4x12x12x1x1x1x16x1x1_S4x12x12x1x1x1x16x4x4_0_1_2_3_4_5_6_7_8 x
      (ixP n o a) = x (ixO n o) := by
  refine congrArg x (funext fun k => ?_)
  fin_cases k <;> rfl

/-- A bias, read at a pose's entry. -/
theorem bPB (x : S1x1x1x1x1x1x16x1x1.Idx → α) (n : Fin 576) (o a : Fin 16) :
    broadcastInDim S4x12x12x1x1x1x16x4x4 ![0, 1, 2, 3, 4, 5, 6, 7, 8] bcast_S1x1x1x1x1x1x16x1x1_S4x12x12x1x1x1x16x4x4_0_1_2_3_4_5_6_7_8 x
      (ixP n o a) = x (ixB o) := by
  refine congrArg x (funext fun k => ?_)
  fin_cases k <;> rfl

/-- A bias, read at an output capsule. -/
theorem bOB (x : S1x1x1x1x1x1x16x1x1.Idx → α) (n : Fin 576) (o : Fin 16) :
    broadcastInDim S4x12x12x1x1x1x16x1x1 ![0, 1, 2, 3, 4, 5, 6, 7, 8] bcast_S1x1x1x1x1x1x16x1x1_S4x12x12x1x1x1x16x1x1_0_1_2_3_4_5_6_7_8 x
      (ixO n o) = x (ixB o) := by
  refine congrArg x (funext fun k => ?_)
  fin_cases k <;> rfl

end Broadcast

/-! ## A sum over some axes read at an index -/

/-- A sum over the elements dropping to one result index, through a listing of them. -/
theorem sum_fiber {s t : Shape} {axes : List (Fin s.rank)} (h : s.ReducesTo axes t) (x : s.Idx → EReal) (j : t.Idx) {ι : Type} [Fintype ι]
    (lift : ι → s.Idx) (inv : s.Idx → ι) (h1 : ∀ k, h.drop (lift k) = j) (h2 : ∀ k, inv (lift k) = k)
    (h3 : ∀ i, h.drop i = j → lift (inv i) = i) : Ideal.hostReduceAdd h x 0 j = ∑ k, x (lift k) := by
  unfold Ideal.hostReduceAdd
  rw [zero_add]
  refine Finset.sum_nbij' inv lift (fun _ _ => Finset.mem_univ _) (fun k _ => ?_) (fun i hi => ?_) (fun k _ => h2 k) (fun i hi => ?_)
  · simpa using h1 k
  · exact h3 i (by simpa using hi)
  · rw [h3 i (by simpa using hi)]

/-- The row of a vote's or an assignment's index. -/
def rowF (i : S4x12x12x3x3x16x16x4x4.Idx) : Fin 144 :=
  ⟨(i 3).val * 48 + (i 4).val * 16 + (i 5).val, by
    have h3 : (i 3).val < 3 := (i 3).isLt
    have h4 : (i 4).val < 3 := (i 4).isLt
    have h5 : (i 5).val < 16 := (i 5).isLt
    omega⟩
/-- The row of an index of the shares. -/
def rowS (i : S4x12x12x3x3x16x16x1x1.Idx) : Fin 144 :=
  ⟨(i 3).val * 48 + (i 4).val * 16 + (i 5).val, by
    have h3 : (i 3).val < 3 := (i 3).isLt
    have h4 : (i 4).val < 3 := (i 4).isLt
    have h5 : (i 5).val < 16 := (i 5).isLt
    omega⟩

/-- The sum over the window of an array of the assignments' shape. -/
theorem sumS (x : S4x12x12x3x3x16x16x1x1.Idx → EReal) (n : Fin 576) (o : Fin 16) :
    broadcastInDim S4x12x12x1x1x1x16x1x1 ![0, 1, 2, 6, 7, 8] bcast_S4x12x12x16x1x1_S4x12x12x1x1x1x16x1x1_0_1_2_6_7_8
      (Ideal.hostReduceAdd reducesTo_S4x12x12x3x3x16x16x1x1_S4x12x12x16x1x1_d3_4_5 x 0) (ixO n o) = ∑ r, x (ixS n r o) := by
  refine sum_fiber _ x _ (fun r => ixS n r o) rowS (fun r => ?_) (fun r => ?_) (fun i hi => ?_)
  · funext b; fin_cases b <;> rfl
  · refine Fin.ext ?_
    show r.val / 48 * 48 + r.val / 16 % 3 * 16 + r.val % 16 = r.val
    omega
  · have e0 : (i 0).val = n.val / 144 := congrArg (fun f => (f 0).val) hi
    have e1 : (i 1).val = n.val / 12 % 12 := congrArg (fun f => (f 1).val) hi
    have e2 : (i 2).val = n.val % 12 := congrArg (fun f => (f 2).val) hi
    have e6 : (i 6).val = o.val := congrArg (fun f => (f 3).val) hi
    have h3 : (i 3).val < 3 := (i 3).isLt
    have h4 : (i 4).val < 3 := (i 4).isLt
    have h5 : (i 5).val < 16 := (i 5).isLt
    have h7 : (i 7).val < 1 := (i 7).isLt
    have h8 : (i 8).val < 1 := (i 8).isLt
    funext b
    refine Fin.ext ?_
    fin_cases b
    · exact e0.symm
    · exact e1.symm
    · exact e2.symm
    · show ((i 3).val * 48 + (i 4).val * 16 + (i 5).val) / 48 = (i 3).val; omega
    · show ((i 3).val * 48 + (i 4).val * 16 + (i 5).val) / 16 % 3 = (i 4).val; omega
    · show ((i 3).val * 48 + (i 4).val * 16 + (i 5).val) % 16 = (i 5).val; omega
    · exact e6.symm
    · show 0 = (i 7).val; omega
    · show 0 = (i 8).val; omega

/-- The sum over the window of an array of the votes' shape. -/
theorem sumF (x : S4x12x12x3x3x16x16x4x4.Idx → EReal) (n : Fin 576) (o a : Fin 16) :
    broadcastInDim S4x12x12x1x1x1x16x4x4 ![0, 1, 2, 6, 7, 8] bcast_S4x12x12x16x4x4_S4x12x12x1x1x1x16x4x4_0_1_2_6_7_8
      (Ideal.hostReduceAdd reducesTo_S4x12x12x3x3x16x16x4x4_S4x12x12x16x4x4_d3_4_5 x 0) (ixP n o a) = ∑ r, x (ixF n r o a) := by
  refine sum_fiber _ x _ (fun r => ixF n r o a) rowF (fun r => ?_) (fun r => ?_) (fun i hi => ?_)
  · funext b; fin_cases b <;> rfl
  · refine Fin.ext ?_
    show r.val / 48 * 48 + r.val / 16 % 3 * 16 + r.val % 16 = r.val
    omega
  · have e0 : (i 0).val = n.val / 144 := congrArg (fun f => (f 0).val) hi
    have e1 : (i 1).val = n.val / 12 % 12 := congrArg (fun f => (f 1).val) hi
    have e2 : (i 2).val = n.val % 12 := congrArg (fun f => (f 2).val) hi
    have e6 : (i 6).val = o.val := congrArg (fun f => (f 3).val) hi
    have e7 : (i 7).val = a.val / 4 := congrArg (fun f => (f 4).val) hi
    have e8 : (i 8).val = a.val % 4 := congrArg (fun f => (f 5).val) hi
    have h3 : (i 3).val < 3 := (i 3).isLt
    have h4 : (i 4).val < 3 := (i 4).isLt
    have h5 : (i 5).val < 16 := (i 5).isLt
    funext b
    refine Fin.ext ?_
    fin_cases b
    · exact e0.symm
    · exact e1.symm
    · exact e2.symm
    · show ((i 3).val * 48 + (i 4).val * 16 + (i 5).val) / 48 = (i 3).val; omega
    · show ((i 3).val * 48 + (i 4).val * 16 + (i 5).val) / 16 % 3 = (i 4).val; omega
    · show ((i 3).val * 48 + (i 4).val * 16 + (i 5).val) % 16 = (i 5).val; omega
    · exact e6.symm
    · exact e7.symm
    · exact e8.symm

/-- The sum over a pose's entries. -/
theorem sumP (x : S4x12x12x1x1x1x16x4x4.Idx → EReal) (n : Fin 576) (o : Fin 16) :
    broadcastInDim S4x12x12x1x1x1x16x1x1 ![0, 1, 2, 3, 4, 5, 6] bcast_S4x12x12x1x1x1x16_S4x12x12x1x1x1x16x1x1_0_1_2_3_4_5_6
      (Ideal.hostReduceAdd reducesTo_S4x12x12x1x1x1x16x4x4_S4x12x12x1x1x1x16_d8_7 x 0) (ixO n o) = ∑ a, x (ixP n o a) := by
  refine sum_fiber _ x _ (fun a => ixP n o a) (fun i => ⟨(i 7).val * 4 + (i 8).val, by
    have h7 : (i 7).val < 4 := (i 7).isLt
    have h8 : (i 8).val < 4 := (i 8).isLt
    omega⟩) (fun r => ?_) (fun a => ?_) (fun i hi => ?_)
  · funext b; fin_cases b <;> rfl
  · refine Fin.ext ?_
    show a.val / 4 * 4 + a.val % 4 = a.val
    omega
  · have e0 : (i 0).val = n.val / 144 := congrArg (fun f => (f 0).val) hi
    have e1 : (i 1).val = n.val / 12 % 12 := congrArg (fun f => (f 1).val) hi
    have e2 : (i 2).val = n.val % 12 := congrArg (fun f => (f 2).val) hi
    have e6 : (i 6).val = o.val := congrArg (fun f => (f 6).val) hi
    have h3 : (i 3).val < 1 := (i 3).isLt
    have h4 : (i 4).val < 1 := (i 4).isLt
    have h5 : (i 5).val < 1 := (i 5).isLt
    have h7 : (i 7).val < 4 := (i 7).isLt
    have h8 : (i 8).val < 4 := (i 8).isLt
    funext b
    refine Fin.ext ?_
    fin_cases b
    · exact e0.symm
    · exact e1.symm
    · exact e2.symm
    · show 0 = (i 3).val; omega
    · show 0 = (i 4).val; omega
    · show 0 = (i 5).val; omega
    · exact e6.symm
    · show ((i 7).val * 4 + (i 8).val) / 4 = (i 7).val; omega
    · show ((i 7).val * 4 + (i 8).val) % 4 = (i 8).val; omega

/-- The sum over a vote's entries. -/
theorem sumV (x : S4x12x12x3x3x16x16x4x4.Idx → EReal) (n : Fin 576) (r : Fin 144) (o : Fin 16) :
    broadcastInDim S4x12x12x3x3x16x16x1x1 ![0, 1, 2, 3, 4, 5, 6] bcast_S4x12x12x3x3x16x16_S4x12x12x3x3x16x16x1x1_0_1_2_3_4_5_6
      (Ideal.hostReduceAdd reducesTo_S4x12x12x3x3x16x16x4x4_S4x12x12x3x3x16x16_d8_7 x 0) (ixS n r o) = ∑ a, x (ixF n r o a) := by
  refine sum_fiber _ x _ (fun a => ixF n r o a) (fun i => ⟨(i 7).val * 4 + (i 8).val, by
    have h7 : (i 7).val < 4 := (i 7).isLt
    have h8 : (i 8).val < 4 := (i 8).isLt
    omega⟩) (fun r => ?_) (fun a => ?_) (fun i hi => ?_)
  · funext b; fin_cases b <;> rfl
  · refine Fin.ext ?_
    show a.val / 4 * 4 + a.val % 4 = a.val
    omega
  · have e0 : (i 0).val = n.val / 144 := congrArg (fun f => (f 0).val) hi
    have e1 : (i 1).val = n.val / 12 % 12 := congrArg (fun f => (f 1).val) hi
    have e2 : (i 2).val = n.val % 12 := congrArg (fun f => (f 2).val) hi
    have e3 : (i 3).val = r.val / 48 := congrArg (fun f => (f 3).val) hi
    have e4 : (i 4).val = r.val / 16 % 3 := congrArg (fun f => (f 4).val) hi
    have e5 : (i 5).val = r.val % 16 := congrArg (fun f => (f 5).val) hi
    have e6 : (i 6).val = o.val := congrArg (fun f => (f 6).val) hi
    have h7 : (i 7).val < 4 := (i 7).isLt
    have h8 : (i 8).val < 4 := (i 8).isLt
    funext b
    refine Fin.ext ?_
    fin_cases b
    · exact e0.symm
    · exact e1.symm
    · exact e2.symm
    · exact e3.symm
    · exact e4.symm
    · exact e5.symm
    · exact e6.symm
    · show ((i 7).val * 4 + (i 8).val) / 4 = (i 7).val; omega
    · show ((i 7).val * 4 + (i 8).val) % 4 = (i 8).val; omega

/-- Every assignment's index is of a position, a row and an output capsule. -/
theorem eq_ixS (i : S4x12x12x3x3x16x16x1x1.Idx) : ∃ n r o, i = ixS n r o := by
  have h0 : (i 0).val < 4 := (i 0).isLt
  have h1 : (i 1).val < 12 := (i 1).isLt
  have h2 : (i 2).val < 12 := (i 2).isLt
  have h3 : (i 3).val < 3 := (i 3).isLt
  have h4 : (i 4).val < 3 := (i 4).isLt
  have h5 : (i 5).val < 16 := (i 5).isLt
  have h7 : (i 7).val < 1 := (i 7).isLt
  have h8 : (i 8).val < 1 := (i 8).isLt
  refine ⟨⟨(i 0).val * 144 + (i 1).val * 12 + (i 2).val, by omega⟩, rowS i, ⟨(i 6).val, (i 6).isLt⟩, ?_⟩
  funext b
  refine Fin.ext ?_
  fin_cases b
  · show (i 0).val = ((i 0).val * 144 + (i 1).val * 12 + (i 2).val) / 144; omega
  · show (i 1).val = ((i 0).val * 144 + (i 1).val * 12 + (i 2).val) / 12 % 12; omega
  · show (i 2).val = ((i 0).val * 144 + (i 1).val * 12 + (i 2).val) % 12; omega
  · show (i 3).val = ((i 3).val * 48 + (i 4).val * 16 + (i 5).val) / 48; omega
  · show (i 4).val = ((i 3).val * 48 + (i 4).val * 16 + (i 5).val) / 16 % 3; omega
  · show (i 5).val = ((i 3).val * 48 + (i 4).val * 16 + (i 5).val) % 16; omega
  · rfl
  · show (i 7).val = 0; omega
  · show (i 8).val = 0; omega

/-- An assignment's index of a known position is that of its row and its output capsule. -/
theorem eq_of_pos (i : S4x12x12x3x3x16x16x1x1.Idx) (n : Fin 576) (e0 : (i 0).val = n.val / 144) (e1 : (i 1).val = n.val / 12 % 12)
    (e2 : (i 2).val = n.val % 12) : i = ixS n (rowS i) ⟨(i 6).val, (i 6).isLt⟩ := by
  obtain ⟨n', r, o, rfl⟩ := eq_ixS i
  have e0 : n'.val / 144 = n.val / 144 := e0
  have e1 : n'.val / 12 % 12 = n.val / 12 % 12 := e1
  have e2 : n'.val % 12 = n.val % 12 := e2
  have hn : n' = n := Fin.ext (by omega)
  have hr : rowS (ixS n' r o) = r := Fin.ext (by
    show r.val / 48 * 48 + r.val / 16 % 3 * 16 + r.val % 16 = r.val
    omega)
  rw [hr, hn]; rfl

/-- The greatest element of an array of the assignments' shape. -/
theorem maxS (x : S4x12x12x3x3x16x16x1x1.Idx → EReal) (j : S_.Idx) :
    Host.reduce (FloatOps.maximumf (F := Ideal) (φ := .f32)) x (constant (F := Ideal) S_ .f32 0xFF800000#32)
      reducesTo_S4x12x12x3x3x16x16x1x1_S_d0_1_2_3_4_5_6_7_8 h_S_ j
      = ⨆ y : Fin 576 × Fin 144 × Fin 16, x (ixS y.1 y.2.1 y.2.2) := by
  rw [Host.reduce_eq_fold]
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  show Finset.sup _ x = _
  refine le_antisymm (Finset.sup_le fun i _ => ?_) (iSup_le fun y => ?_)
  · obtain ⟨n, r, o, rfl⟩ := eq_ixS i
    exact le_iSup (fun y : Fin 576 × Fin 144 × Fin 16 => x (ixS y.1 y.2.1 y.2.2)) (n, r, o)
  · exact Finset.le_sup (f := x) (by simp only [Finset.mem_filter, Finset.mem_univ, true_and]; funext b; exact b.elim0)

/-- Of a total per position and input capsule, and of the same with unit axes. -/
def ixC (n : Fin 576) (r : Fin 144) : S4x12x12x16x1x1.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨r.val % 16, by show _ < 16; omega⟩
  | ⟨4, _⟩ => ⟨0, Nat.one_pos⟩
  | ⟨5, _⟩ => ⟨0, Nat.one_pos⟩
/-- The index of an input capsule's total, kept in rank. -/
def ixD (n : Fin 576) (r : Fin 144) : S4x12x12x1x1x16x1x1x1.Idx := fun k => match k with
  | ⟨0, _⟩ => ⟨n.val / 144, by have := n.isLt; show _ < 4; omega⟩
  | ⟨1, _⟩ => ⟨n.val / 12 % 12, by show _ < 12; omega⟩
  | ⟨2, _⟩ => ⟨n.val % 12, by show _ < 12; omega⟩
  | ⟨3, _⟩ => ⟨0, Nat.one_pos⟩
  | ⟨4, _⟩ => ⟨0, Nat.one_pos⟩
  | ⟨5, _⟩ => ⟨r.val % 16, by show _ < 16; omega⟩
  | ⟨6, _⟩ => ⟨0, Nat.one_pos⟩
  | ⟨7, _⟩ => ⟨0, Nat.one_pos⟩
  | ⟨8, _⟩ => ⟨0, Nat.one_pos⟩

/-- An input capsule's total, read at a row and output capsule. -/
theorem bSD {α : Type} (x : S4x12x12x1x1x16x1x1x1.Idx → α) (n : Fin 576) (r : Fin 144) (o : Fin 16) :
    broadcastInDim S4x12x12x3x3x16x16x1x1 ![0, 1, 2, 3, 4, 5, 6, 7, 8] bcast_S4x12x12x1x1x16x1x1x1_S4x12x12x3x3x16x16x1x1_0_1_2_3_4_5_6_7_8 x
      (ixS n r o) = x (ixD n r) := by
  refine congrArg x (funext fun k => ?_)
  fin_cases k <;> rfl

/-- An input capsule's total with its unit axes put in. -/
theorem bDC {α : Type} (x : S4x12x12x16x1x1.Idx → α) (n : Fin 576) (r : Fin 144) :
    broadcastInDim S4x12x12x1x1x16x1x1x1 ![0, 1, 2, 5, 7, 8] bcast_S4x12x12x16x1x1_S4x12x12x1x1x16x1x1x1_0_1_2_5_7_8 x (ixD n r)
      = x (ixC n r) := by
  refine congrArg x (funext fun k => ?_)
  fin_cases k <;> rfl

/-- The sum over the window's places and the output capsules, at one input capsule. -/
theorem sumC (x : S4x12x12x3x3x16x16x1x1.Idx → EReal) (n : Fin 576) (r : Fin 144) :
    Ideal.hostReduceAdd reducesTo_S4x12x12x3x3x16x16x1x1_S4x12x12x16x1x1_d3_4_6 x 0 (ixC n r)
      = ∑ y ∈ Finset.univ.filter (fun y : Fin 144 × Fin 16 => y.1.val % 16 = r.val % 16), x (ixS n y.1 y.2) := by
  unfold Ideal.hostReduceAdd
  rw [zero_add]
  refine Finset.sum_nbij' (fun i => (rowS i, (⟨(i 6).val, (i 6).isLt⟩ : Fin 16))) (fun y => ixS n y.1 y.2) (fun i hi => ?_) (fun y hy => ?_)
    (fun i hi => ?_) (fun y hy => ?_) (fun i hi => ?_)
  · have hi := (Finset.mem_filter.1 hi).2
    have e5 : (i 5).val = r.val % 16 := congrArg (fun f => (f 3).val) hi
    have h5 : (i 5).val < 16 := (i 5).isLt
    refine Finset.mem_filter.2 ⟨Finset.mem_univ _, ?_⟩
    show ((i 3).val * 48 + (i 4).val * 16 + (i 5).val) % 16 = r.val % 16
    omega
  · have hy := (Finset.mem_filter.1 hy).2
    refine Finset.mem_filter.2 ⟨Finset.mem_univ _, ?_⟩
    funext b; refine Fin.ext ?_
    fin_cases b
    · rfl
    · rfl
    · rfl
    · exact hy
    · rfl
    · rfl
  · have hi := (Finset.mem_filter.1 hi).2
    have e0 : (i 0).val = n.val / 144 := congrArg (fun f => (f 0).val) hi
    have e1 : (i 1).val = n.val / 12 % 12 := congrArg (fun f => (f 1).val) hi
    have e2 : (i 2).val = n.val % 12 := congrArg (fun f => (f 2).val) hi
    exact (eq_of_pos i n e0 e1 e2).symm
  · refine Prod.ext (Fin.ext ?_) (Fin.ext rfl)
    show y.1.val / 48 * 48 + y.1.val / 16 % 3 * 16 + y.1.val % 16 = y.1.val
    omega
  · have hi := (Finset.mem_filter.1 hi).2
    have e0 : (i 0).val = n.val / 144 := congrArg (fun f => (f 0).val) hi
    have e1 : (i 1).val = n.val / 12 % 12 := congrArg (fun f => (f 1).val) hi
    have e2 : (i 2).val = n.val % 12 := congrArg (fun f => (f 2).val) hi
    exact congrArg x (eq_of_pos i n e0 e1 e2)

/-! ## The stretches' functions at an index -/

section Stretch

variable (w : (⟨S4x12x12x3x3x16x16x1x1, .f32⟩ : BufTy).Contents (Elt Ideal)) (v : (⟨S4x12x12x3x3x16x16x4x4, .f32⟩ : BufTy).Contents (Elt Ideal))
variable (s : (⟨S4x12x12x1x1x1x16x1x1, .f32⟩ : BufTy).Contents (Elt Ideal)) (z : (⟨S4x12x12x1x1x1x16x4x4, .f32⟩ : BufTy).Contents (Elt Ideal))
variable (b b' : (⟨S1x1x1x1x1x1x16x1x1, .f32⟩ : BufTy).Contents (Elt Ideal)) (p : (⟨S4x12x12x3x3x16x1x1x1, .f32⟩ : BufTy).Contents (Elt Ideal))
variable (n : Fin 576) (r : Fin 144) (o a : Fin 16)

/-- A weighted share. -/
theorem weigh_at : weigh p w (ixS n r o) = w (ixS n r o) * p (ixA n r) := by
  show w (ixS n r o) * broadcastInDim _ _ _ p (ixS n r o) = _
  rw [bSA]

/-- The total weight. -/
theorem total_at : total w (ixO n o) = tot fun r => w (ixS n r o) := by
  show broadcastInDim _ _ _ (Ideal.hostReduceAdd _ w (Ideal.ofBits .f32 0x00000000#32)) (ixO n o) = _
  rw [Ideal.ofBits_zero_f32, sumS]; rfl

/-- The weighted mean. -/
theorem center_at : center w v s z (ixP n o a)
    = Ideal.div (∑ r, w (ixS n r o) * v (ixF n r o a)) (s (ixO n o) + eps) := by
  show Ideal.ofBits .f32 0x3F800000#32 * Ideal.div (broadcastInDim _ _ _ (Ideal.hostReduceAdd _ (mulf (F := Ideal) (φ := .f32) _ _) (Ideal.ofBits .f32 0x00000000#32)) (ixP n o a))
    (broadcastInDim _ _ _ (addf (F := Ideal) (φ := .f32) s _) (ixP n o a)) + Ideal.ofBits .f32 0x00000000#32 * z (ixP n o a) = _
  rw [Ideal.ofBits_zero_f32, Ideal.ofBits_one_f32, sumF, one_mul, zero_mul, add_zero, bPO]
  refine congrArg₂ Ideal.div (Finset.sum_congr rfl fun r _ => ?_) rfl
  show broadcastInDim _ _ _ w (ixF n r o a) * _ = _
  rw [bFS]

/-- The weighted variance. -/
theorem spread_at : spread z v w s (ixP n o a)
    = Ideal.div (∑ r, w (ixS n r o) * ((v (ixF n r o a) - z (ixP n o a)) * (v (ixF n r o a) - z (ixP n o a)))) (s (ixO n o) + eps) + flr := by
  show Ideal.div (broadcastInDim _ _ _ (Ideal.hostReduceAdd _ (mulf (F := Ideal) (φ := .f32) _ _) (Ideal.ofBits .f32 0x00000000#32)) (ixP n o a))
    (broadcastInDim _ _ _ (addf (F := Ideal) (φ := .f32) s _) (ixP n o a)) + flr = _
  rw [Ideal.ofBits_zero_f32, sumF, bPO]
  refine congrArg (· + flr) (congrArg₂ Ideal.div (Finset.sum_congr rfl fun r _ => ?_) rfl)
  show broadcastInDim _ _ _ w (ixF n r o a) * ((v (ixF n r o a) - broadcastInDim _ _ _ z (ixF n r o a)) * (v (ixF n r o a) - broadcastInDim _ _ _ z (ixF n r o a))) = _
  rw [bFS, bFP]

/-- The variance's logarithm. -/
theorem logSpread_at : logSpread z (ixP n o a) = Ideal.log (z (ixP n o a) + eps) := rfl

/-- What the logistic is taken of. -/
theorem logit_at (k : BitVec 32) : logit k z b s b' (ixO n o)
    = Ideal.ofBits .f32 k * (b' (ixB o) - ∑ a, (b (ixB o) - half * z (ixP n o a)) * s (ixO n o)) := by
  show Ideal.ofBits .f32 k * (broadcastInDim _ _ _ b' (ixO n o) - broadcastInDim _ _ _ (Ideal.hostReduceAdd _ (Host.divf (F := Ideal) (φ := .f32) _ _) (Ideal.ofBits .f32 0x00000000#32)) (ixO n o)) = _
  rw [Ideal.ofBits_zero_f32, sumP, bOB]
  refine congrArg (fun t => Ideal.ofBits .f32 k * (b' (ixB o) - t)) (Finset.sum_congr rfl fun a _ => ?_)
  show Ideal.div ((broadcastInDim _ _ _ b (ixP n o a) - half * z (ixP n o a)) * broadcastInDim _ _ _ s (ixP n o a)) (Ideal.ofBits .f32 0x3F800000#32) = _
  rw [bPB, bPO, Ideal.ofBits_one_f32, Ideal.div, if_neg one_ne_zero, inv_one, mul_one]

/-- The logistic. -/
theorem squash_at : squash s (ixO n o) = Ideal.logistic (s (ixO n o)) := by
  show Ideal.div (Ideal.ofBits .f32 0x3F800000#32) (Ideal.ofBits .f32 0x3F800000#32 + Ideal.exp (-(s (ixO n o)))) = _
  rw [Ideal.ofBits_one_f32]; rfl

variable (σ : (⟨S4x12x12x1x1x1x16x4x4, .f32⟩ : BufTy).Contents (Elt Ideal))

/-- The score. -/
theorem score_at : Line.score σ z v s (ixS n r o)
    = Caps.score (Ideal.log (s (ixO n o))) (fun a => σ (ixP n o a)) (fun a => z (ixP n o a)) (fun a => v (ixF n r o a)) := by
  show broadcastInDim _ _ _ (Host.log (F := Ideal) (φ := .f32) s) (ixS n r o) + -(broadcastInDim _ _ _ (Ideal.hostReduceAdd _ (addf (F := Ideal) (φ := .f32) _ _) (Ideal.ofBits .f32 0x00000000#32)) (ixS n r o)) = _
  rw [Ideal.ofBits_zero_f32, sumV, bSO]
  refine congrArg (fun t => Ideal.log (s (ixO n o)) + -t) (Finset.sum_congr rfl fun a _ => ?_)
  show broadcastInDim _ _ _ (Host.log (F := Ideal) (φ := .f32) _) (ixF n r o a) + Ideal.div ((v (ixF n r o a) - broadcastInDim _ _ _ z (ixF n r o a)) * (v (ixF n r o a) - broadcastInDim _ _ _ z (ixF n r o a)))
    (broadcastInDim _ _ _ (mulf (F := Ideal) (φ := .f32) _ _) (ixF n r o a)) = _
  rw [bFP, bFP, bFP]; rfl

/-- The exponential of a score less the greatest. -/
theorem shifted_at : shifted w (ixS n r o) = Ideal.exp (w (ixS n r o) - ⨆ y : Fin 576 × Fin 144 × Fin 16, w (ixS y.1 y.2.1 y.2.2)) := by
  show Ideal.exp (w (ixS n r o) - broadcastInDim S4x12x12x3x3x16x16x1x1 ![] bcast_S_S4x12x12x3x3x16x16x1x1 (Host.reduce (FloatOps.maximumf (F := Ideal) (φ := .f32)) w
    (constant (F := Ideal) S_ .f32 0xFF800000#32) reducesTo_S4x12x12x3x3x16x16x1x1_S_d0_1_2_3_4_5_6_7_8 h_S_) (ixS n r o)) = _
  rw [broadcastInDim_scalar_apply, maxS]

/-- The share of a row in an output capsule. -/
theorem shares_at : shares w (ixS n r o)
    = Ideal.div (w (ixS n r o)) ((∑ y ∈ Finset.univ.filter (fun y : Fin 144 × Fin 16 => y.1.val % 16 = r.val % 16), w (ixS n y.1 y.2)) + eps) := by
  show Ideal.div (w (ixS n r o)) (broadcastInDim _ _ _ (addf (F := Ideal) (φ := .f32) (broadcastInDim _ _ _ (Ideal.hostReduceAdd _ w (Ideal.ofBits .f32 0x00000000#32))) _) (ixS n r o)) = _
  rw [bSD, Ideal.ofBits_zero_f32]
  show Ideal.div _ (broadcastInDim _ _ _ (Ideal.hostReduceAdd _ w 0) (ixD n r) + eps) = _
  rw [bDC, sumC]

/-- The output capsules' axis dropped from the assignments' shape. -/
theorem reduces6 : S4x12x12x3x3x16x16x1x1.Reduces [6] S4x12x12x3x3x16x1x1 := by decide

/-- The exponentials of the zeros less their greatest. -/
def evenExp : (⟨S4x12x12x3x3x16x16x1x1, .f32⟩ : BufTy).Contents (Elt Ideal) :=
  Host.exp (F := Ideal) (φ := .f32) (subf (broadcastInDim S4x12x12x3x3x16x16x1x1 ![] bcast_S_S4x12x12x3x3x16x16x1x1 (constant S_ .f32 0x00000000#32)) (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8 (maximumf (broadcastInDim S4x12x12x3x3x16x1x1 ![] bcast_S_S4x12x12x3x3x16x1x1 (constant S_ .f32 0xFF800000#32)) (Host.reduce FloatOps.maximumf (broadcastInDim S4x12x12x3x3x16x16x1x1 ![] bcast_S_S4x12x12x3x3x16x16x1x1 (constant S_ .f32 0x00000000#32)) (constant S_ .f32 0xFF800000#32) reducesTo_S4x12x12x3x3x16x16x1x1_S4x12x12x3x3x16x1x1_d6 h_S_)))))

/-- One sixteenth everywhere. -/
theorem evenShare_at (i : S4x12x12x3x3x16x16x1x1.Idx) : evenShare (F := Ideal) i = sixt := by
  have hb : Ideal.ofBits .f32 0xFF800000#32 = ⊥ := by simp [Ideal.ofBits, Ideal.ieee]
  have hz : ∀ (x : S4x12x12x3x3x16x16x1x1.Idx → EReal), (∀ i, x i = 0) → ∀ j,
      Host.reduce (FloatOps.maximumf (F := Ideal) (φ := .f32)) x (constant (F := Ideal) S_ .f32 0xFF800000#32)
        reducesTo_S4x12x12x3x3x16x16x1x1_S4x12x12x3x3x16x1x1_d6 h_S_ j = 0 := fun x hx j => by
    rw [Host.reduce_eq_fold_single (f := FloatOps.maximumf (F := Ideal) (φ := .f32)) (h := reduces6)]
    show Finset.fold max (Ideal.ofBits .f32 0xFF800000#32) (x ∘ _) (Finset.univ : Finset (Fin 16)) = 0
    rw [hb]
    show Finset.sup _ _ = _
    refine le_antisymm (Finset.sup_le fun k _ => (hx _).le) ?_
    exact (hx (reduces6.lift j (0 : Fin 16))).symm.le.trans (Finset.le_sup (f := x ∘ reduces6.lift j) (Finset.mem_univ (0 : Fin 16)))
  have hs : ∀ (x : S4x12x12x3x3x16x16x1x1.Idx → EReal), (∀ i, x i = 1) → ∀ j,
      Ideal.hostReduceAdd reducesTo_S4x12x12x3x3x16x16x1x1_S4x12x12x3x3x16x1x1_d6 x 0 j = ((16 : ℝ) : EReal) := fun x hx j => by
    rw [Ideal.hostReduceAdd_single _ reduces6, zero_add]
    rw [Finset.sum_congr rfl fun k _ => hx _]
    show ∑ k : Fin 16, ((1 : ℝ) : EReal) = _
    rw [coe_sum]
    simp
  have ge : ∀ (z : (⟨S4x12x12x3x3x16x16x1x1, .f32⟩ : BufTy).Contents (Elt Ideal)) (m : (⟨S4x12x12x3x3x16x1x1, .f32⟩ : BufTy).Contents (Elt Ideal)),
      (∀ i, z i = (0 : EReal)) → (∀ j, m j = (0 : EReal)) → ∀ i,
      (Host.exp (F := Ideal) (φ := .f32) (subf z (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8 (maximumf (broadcastInDim S4x12x12x3x3x16x1x1 ![] bcast_S_S4x12x12x3x3x16x1x1 (constant S_ .f32 0xFF800000#32)) m)))) i : EReal) = 1 := fun z m hz hm i => by
    show Ideal.exp ((z i : EReal) - max (Ideal.ofBits .f32 0xFF800000#32) (m _ : EReal)) = 1
    rw [hm, hz, hb, max_eq_right bot_le, sub_zero]
    show ((Real.exp 0 : ℝ) : EReal) = 1
    rw [Real.exp_zero]; rfl
  have he : ∀ i : S4x12x12x3x3x16x16x1x1.Idx, evenExp i = 1 :=
    ge _ _ (fun _ => Ideal.ofBits_zero_f32) (hz _ fun _ => Ideal.ofBits_zero_f32)
  have e : evenShare (F := Ideal) i = Ideal.div (evenExp i) (broadcastInDim S4x12x12x3x3x16x16x1x1 ![0, 1, 2, 3, 4, 5, 6, 7, 8] bcast_S4x12x12x3x3x16x1x1x1_S4x12x12x3x3x16x16x1x1_0_1_2_3_4_5_6_7_8 (broadcastInDim S4x12x12x3x3x16x1x1x1 ![0, 1, 2, 3, 4, 5, 7, 8] bcast_S4x12x12x3x3x16x1x1_S4x12x12x3x3x16x1x1x1_0_1_2_3_4_5_7_8
      (Ideal.hostReduceAdd reducesTo_S4x12x12x3x3x16x16x1x1_S4x12x12x3x3x16x1x1_d6 evenExp (Ideal.ofBits .f32 0x00000000#32))) i) := rfl
  have e' : ∀ (x : S4x12x12x3x3x16x1x1.Idx → EReal) (t : EReal), (∀ j, x j = t) → broadcastInDim S4x12x12x3x3x16x16x1x1 ![0, 1, 2, 3, 4, 5, 6, 7, 8] bcast_S4x12x12x3x3x16x1x1x1_S4x12x12x3x3x16x16x1x1_0_1_2_3_4_5_6_7_8
      (broadcastInDim S4x12x12x3x3x16x1x1x1 ![0, 1, 2, 3, 4, 5, 7, 8] bcast_S4x12x12x3x3x16x1x1_S4x12x12x3x3x16x1x1x1_0_1_2_3_4_5_7_8 x) i = t := fun x t h => h _
  rw [e, Ideal.ofBits_zero_f32, e' _ _ (hs _ he), he, sixt_eq, show (1 : EReal) = ((1 : ℝ) : EReal) from rfl, div_coe _ _ (by norm_num)]

end Stretch

/-! ## The two rounds -/

section Rounds

variable (v : (⟨S4x12x12x3x3x16x16x4x4, .f32⟩ : BufTy).Contents (Elt Ideal)) (p : (⟨S4x12x12x3x3x16x1x1x1, .f32⟩ : BufTy).Contents (Elt Ideal))
variable (ba bu : (⟨S1x1x1x1x1x1x16x1x1, .f32⟩ : BufTy).Contents (Elt Ideal))

/-- The votes by position, row, output capsule and entry. -/
def VV : Fin 576 → Fin 144 → Fin 16 → Fin 16 → EReal := fun n r o a => v (ixF n r o a)
/-- The activations by position and row. -/
def AA : Fin 576 → Fin 144 → EReal := fun n r => p (ixA n r)
/-- A bias by output capsule. -/
def BB (b : (⟨S1x1x1x1x1x1x16x1x1, .f32⟩ : BufTy).Contents (Elt Ideal)) : Fin 16 → EReal := fun o => b (ixB o)

variable (n : Fin 576) (r : Fin 144) (o a : Fin 16)

/-- The first round's weights. -/
theorem W1_at : W1 p (ixS n r o) = w1 (AA p) n r := by
  rw [W1, weigh_at, evenShare_at]; rfl
/-- The first round's total weights. -/
theorem S1_at : S1 p (ixO n o) = tot (w1 (AA p) n) := by
  rw [S1, total_at]; exact congrArg tot (funext fun r => W1_at p n r o)
/-- The first round's means. -/
theorem M1_at : M1 v p (ixP n o a) = mu1 (VV v) (AA p) n o a := by
  rw [M1, center_at, S1_at]
  simp only [W1_at]; rfl
/-- The first round's variances. -/
theorem D1_at : D1 v p (ixP n o a) = sg1 Caps.var (VV v) (AA p) n o a := by
  rw [D1, spread_at, S1_at, M1_at]
  simp only [W1_at]; rfl
/-- The logarithms of the first round's activations. -/
theorem L1_at : Ideal.log (P1 v p ba bu (ixO n o)) = la1 Caps.var (VV v) (AA p) (BB ba) (BB bu) n o := by
  rw [P1, squash_at, T1, logit_at, S1_at]
  simp only [L1, logSpread_at, D1_at]; rfl
/-- The scores. -/
theorem C1_at : C1 v p ba bu (ixS n r o) = sc Caps.var Caps.score (VV v) (AA p) (BB ba) (BB bu) n r o := by
  rw [C1, score_at, L1_at]
  simp only [D1_at, M1_at]; rfl
/-- The exponentials. -/
theorem E1_at : E1 v p ba bu (ixS n r o) = ex Caps.var Caps.score (VV v) (AA p) (BB ba) (BB bu) n r o := by
  rw [E1, shifted_at]
  simp only [C1_at]; rfl
/-- The second round's weights. -/
theorem W2_at : W2 v p ba bu (ixS n r o) = w2 Caps.var Caps.score (VV v) (AA p) (BB ba) (BB bu) n o r := by
  rw [W2, weigh_at, R2, shares_at]
  simp only [E1_at]; rfl
/-- The second round's total weights. -/
theorem S2_at : S2 v p ba bu (ixO n o) = tot (w2 Caps.var Caps.score (VV v) (AA p) (BB ba) (BB bu) n o) := by
  rw [S2, total_at]; exact congrArg tot (funext fun r => W2_at v p ba bu n r o)
/-- The poses. -/
theorem M2_at : M2 v p ba bu (ixP n o a) = mu2 Caps.var Caps.score (VV v) (AA p) (BB ba) (BB bu) n o a := by
  rw [M2, center_at, S2_at]
  simp only [W2_at]; rfl
/-- The second round's variances. -/
theorem D2_at : D2 v p ba bu (ixP n o a) = sg2 Caps.var Caps.score (VV v) (AA p) (BB ba) (BB bu) n o a := by
  rw [D2, spread_at, S2_at, M2_at]
  simp only [W2_at]; rfl
/-- The activations. -/
theorem P2_at : P2 v p ba bu (ixO n o) = act2 Caps.var Caps.score (VV v) (AA p) (BB ba) (BB bu) n o := by
  rw [P2, squash_at, T2, logit_at, S2_at]
  simp only [L2, logSpread_at, D2_at]; rfl

end Rounds

end Cert.ReferenceIdeal.Value

end
-- ==== Proof.KernelIdealHost.lean ====
/-
What the host operations before the two phases leave in the phases' operands, element by element: the votes and activations by position and
row, the biases by column, and the matrices saying which columns and rows belong to which capsule.
-/
module

public import proofs.«01_k».proof.Proof.KernelIdealPayload
public import proofs.«01_k».proof.Proof.Gen.KernelIdeal.Regions
public import proofs.«01_k».proof.Proof.ReferenceValue

@[expose] public section

set_option maxRecDepth 8192

noncomputable section

namespace Cert.KernelIdeal.Value

open Cert.KernelIdeal Cert.KernelIdeal.Gen Cert.Caps
open Cert.ReferenceIdeal.Value (ixF ixA ixB ixP ixO)
open Idealize.ShloMosaic Idealize.ShloMosaic.TcCoe

variable (m : (ℓ : Loc nD τ sig) → Buf (Elt Ideal) ℓ) (c : Dev nD)

/-- The votes a device is given. -/
abbrev votesOf : (⟨S4x12x12x3x3x16x16x4x4, .f32⟩ : BufTy).Contents (Elt Ideal) := m ((c : Thread nD τ).loc main_arg0)
/-- The activations a device is given. -/
abbrev actsOf : (⟨S4x12x12x3x3x16x1x1x1, .f32⟩ : BufTy).Contents (Elt Ideal) := m ((c : Thread nD τ).loc main_arg1)
/-- The first bias a device is given. -/
abbrev baOf : (⟨S1x1x1x1x1x1x16x1x1, .f32⟩ : BufTy).Contents (Elt Ideal) := m ((c : Thread nD τ).loc main_arg2)
/-- The second bias a device is given. -/
abbrev buOf : (⟨S1x1x1x1x1x1x16x1x1, .f32⟩ : BufTy).Contents (Elt Ideal) := m ((c : Thread nD τ).loc main_arg3)

/-! ## The reshapes -/

/-- The votes, laid out by position, row, entry and output capsule. -/
theorem v1_eq : (V1 m c (Proc.devRef .tc main_v1) : (⟨S576x144x16x16, .f32⟩ : BufTy).Contents (Elt Ideal)) = shapeCast S576x144x16x16
    (transpose S4x12x12x3x3x16x4x4x16 [0, 1, 2, 3, 4, 5, 7, 8, 6] (votesOf m c) transposes_S4x12x12x3x3x16x16x4x4_S4x12x12x3x3x16x4x4x16_0_1_2_3_4_5_7_8_6)
    shapeCasts_S4x12x12x3x3x16x4x4x16_S576x144x16x16 := by
  show StableHlo.after hostOps0 (V0 m c) (Proc.devRef .tc main_v1) = _
  after_results_simp
  rfl

/-- An element of the votes so laid out. -/
theorem v1_at (n : Fin 576) (r : Fin 144) (o a : Fin 16) :
    (V1 m c (Proc.devRef .tc main_v1) : (⟨S576x144x16x16, .f32⟩ : BufTy).Contents (Elt Ideal)) (ix4 n r a o) = votesOf m c (ixF n r o a) := by
  rw [v1_eq]
  generalize votesOf m c = x
  pointwise
  exact congrArg x (funext fun k => by fin_cases k <;> rfl)

/-- The activations, laid out by position and row. -/
theorem v2_eq : (V1 m c (Proc.devRef .tc main_v2) : (⟨S576x144, .f32⟩ : BufTy).Contents (Elt Ideal))
    = shapeCast S576x144 (actsOf m c) shapeCasts_S4x12x12x3x3x16x1x1x1_S576x144 := by
  show StableHlo.after hostOps0 (V0 m c) (Proc.devRef .tc main_v2) = _
  after_results_simp
  rfl

/-- An element of the activations so laid out. -/
theorem v2_at (n : Fin 576) (r : Fin 144) :
    (V1 m c (Proc.devRef .tc main_v2) : (⟨S576x144, .f32⟩ : BufTy).Contents (Elt Ideal)) (ix2 n r) = actsOf m c (ixA n r) := by
  rw [v2_eq]
  generalize actsOf m c = x
  pointwise
  exact congrArg x (funext fun k => by fin_cases k <;> rfl)

/-- The first bias, laid out by output capsule. -/
theorem v3_eq : (V1 m c (Proc.devRef .tc main_v3) : (⟨S1x16, .f32⟩ : BufTy).Contents (Elt Ideal))
    = shapeCast S1x16 (baOf m c) shapeCasts_S1x1x1x1x1x1x16x1x1_S1x16 := by
  show StableHlo.after hostOps0 (V0 m c) (Proc.devRef .tc main_v3) = _
  after_results_simp
  rfl

/-- An element of the first bias so laid out. -/
theorem v3_at (o : Fin 16) : (V1 m c (Proc.devRef .tc main_v3) : (⟨S1x16, .f32⟩ : BufTy).Contents (Elt Ideal)) (ix2 0 o) = baOf m c (ixB o) := by
  rw [v3_eq]
  generalize baOf m c = x
  pointwise
  exact congrArg x (funext fun k => by fin_cases k <;> rfl)

/-- The second bias, repeated over an output capsule's entries. -/
theorem v7_eq : (V1 m c (Proc.devRef .tc main_v7) : (⟨S1x256, .f32⟩ : BufTy).Contents (Elt Ideal))
    = shapeCast S1x256 (broadcastInDim S1x16x16 ![0, 1, 2] bcast_S1x16x1_S1x16x16_0_1_2 (broadcastInDim S1x16x1 ![0, 1] bcast_S1x16_S1x16x1_0_1
        (shapeCast S1x16 (buOf m c) shapeCasts_S1x1x1x1x1x1x16x1x1_S1x16))) shapeCasts_S1x16x16_S1x256 := by
  show StableHlo.after hostOps0 (V0 m c) (Proc.devRef .tc main_v7) = _
  after_results_simp
  rfl

/-- An element of the second bias so repeated. -/
theorem v7_at (o a : Fin 16) :
    (V1 m c (Proc.devRef .tc main_v7) : (⟨S1x256, .f32⟩ : BufTy).Contents (Elt Ideal)) (ix2 0 (col o a)) = buOf m c (ixB o) := by
  rw [v7_eq]
  generalize buOf m c = x
  pointwise
  have e : (⟨(col o a).val / 16, by have := (col o a).isLt; omega⟩ : Fin 16) = o := Fin.ext (by simp only [col]; omega)
  rw [e]
  exact congrArg x (funext fun k => by fin_cases k <;> rfl)

/-! ## The matrices -/

/-- Each column's number. -/
theorem v8_eq : (V1 m c (Proc.devRef .tc main_v8) : (⟨S256x16, .i32⟩ : BufTy).Contents (Elt Ideal)) = iotaInDim S256x16 32 0 := by
  show StableHlo.after hostOps0 (V0 m c) (Proc.devRef .tc main_v8) = _
  after_results_simp

/-- Each output capsule's number. -/
theorem v9_eq : (V1 m c (Proc.devRef .tc main_v9) : (⟨S256x16, .i32⟩ : BufTy).Contents (Elt Ideal)) = iotaInDim S256x16 32 1 := by
  show StableHlo.after hostOps0 (V0 m c) (Proc.devRef .tc main_v9) = _
  after_results_simp

/-- The divisor. -/
theorem c_eq : (V1 m c (Proc.devRef .tc main_c) : (⟨S_, .i32⟩ : BufTy).Contents (Elt Ideal)) = constantI S_ 32 16#32 := by
  show StableHlo.after hostOps0 (V0 m c) (Proc.devRef .tc main_c) = _
  after_results_simp

/-- A word's quotient by another, rounded down. -/
def floorDiv (x y : BitVec 32) : BitVec 32 :=
  let s : BitVec 32 → BitVec 32 := fun x => if x = 0 then 0 else if x.msb then -1 else 1
  Scalar.select (IntOp.andi (IntOp.cmpi .ne (s x) (s y)) (IntOp.cmpi .ne (IntOp.remsi .host x y) 0#32))
    (IntOp.subi (IntOp.divsi .host x y) 1#32) (IntOp.divsi .host x y)

/-- What the rounded-down division leaves. -/
theorem v10_at (W : Valuation τ sig (Elt Ideal)) (hc : (W (Proc.devRef .tc main_c) : (⟨S_, .i32⟩ : BufTy).Contents (Elt Ideal)) = constantI S_ 32 16#32)
    (j : S256x16.Idx) :
    (StableHlo.after hostOps0_1 W (Proc.devRef .tc main_v10) : (⟨S256x16, .i32⟩ : BufTy).Contents (Elt Ideal)) j
      = floorDiv ((W (Proc.devRef .tc main_v8) : (⟨S256x16, .i32⟩ : BufTy).Contents (Elt Ideal)) j) 16#32 := by
  after_results_simp
  rw [hc]
  simp only [StableHlo.TRef.ofBuf_toBuf]
  show Idealize.ShloMosaic.select (andi (cmpi .ne (signi (W (Proc.devRef .tc main_v8) : (⟨S256x16, .i32⟩ : BufTy).Contents (Elt Ideal))) _) _) _ _ j = _
  show Scalar.select _ _ _ = _
  unfold floorDiv
  congr 1

/-- Which columns belong to which capsule, as words. -/
theorem col_word : ∀ (i : Fin 256) (o : Fin 16), IntOp.cmpi .eq (floorDiv (BitVec.ofNat 32 i.val) 16#32) (BitVec.ofNat 32 o.val)
    = if i.val / 16 = o.val then 1#1 else 0#1 := by
  decide +kernel

/-- A truth value's number. -/
theorem uitofp_ind (p : Prop) [Decidable p] : (FloatOps.uitofp (F := Ideal) .f32 (if p then 1#1 else 0#1) : EReal) = ind p := by
  by_cases h : p
  · rw [ind, if_pos h, if_pos h]; simp [FloatOps.uitofp]
  · rw [ind, if_neg h, if_neg h]; simp [FloatOps.uitofp]

/-- The matrix of columns by output capsule: one where the column is the capsule's. -/
theorem v12_at (i : Fin 256) (o : Fin 16) : (V5 m c (Proc.devRef .tc main_v12) : (⟨S256x16, .f32⟩ : BufTy).Contents (Elt Ideal)) (ix2 i o)
    = ind (i.val / 16 = o.val) := by
  have e2 : (V2 m c (Proc.devRef .tc main_v10) : (⟨S256x16, .i32⟩ : BufTy).Contents (Elt Ideal)) (ix2 i o) = floorDiv (BitVec.ofNat 32 i.val) 16#32 := by
    show (StableHlo.after hostOps0_1 (V1 m c) (Proc.devRef .tc main_v10) : (⟨S256x16, .i32⟩ : BufTy).Contents (Elt Ideal)) (ix2 i o) = _
    rw [v10_at _ (c_eq m c), v8_eq]
    rfl
  have e9 : (V2 m c (Proc.devRef .tc main_v9) : (⟨S256x16, .i32⟩ : BufTy).Contents (Elt Ideal)) (ix2 i o) = BitVec.ofNat 32 o.val := by
    rw [V2_of m c main_v9 (by decide +kernel), v9_eq]
    rfl
  have e3 : (V3 m c (Proc.devRef .tc main_v12) : (⟨S256x16, .f32⟩ : BufTy).Contents (Elt Ideal)) = uitofp (F := Ideal) .f32 (cmpi .eq
      (V2 m c (Proc.devRef .tc main_v10) : (⟨S256x16, .i32⟩ : BufTy).Contents (Elt Ideal)) (V2 m c (Proc.devRef .tc main_v9) : (⟨S256x16, .i32⟩ : BufTy).Contents (Elt Ideal))) := by
    show StableHlo.after hostOps0_2 (V2 m c) (Proc.devRef .tc main_v12) = _
    after_results_simp
  rw [V5_of m c main_v12 (by decide +kernel), V4_of m c main_v12 (by decide +kernel), e3]
  show FloatOps.uitofp (F := Ideal) .f32 (IntOp.cmpi .eq ((V2 m c (Proc.devRef .tc main_v10) : (⟨S256x16, .i32⟩ : BufTy).Contents (Elt Ideal)) (ix2 i o))
    ((V2 m c (Proc.devRef .tc main_v9) : (⟨S256x16, .i32⟩ : BufTy).Contents (Elt Ideal)) (ix2 i o))) = _
  rw [e2, e9, col_word, uitofp_ind]

/-- The same matrix, transposed. -/
theorem v13_at (o : Fin 16) (i : Fin 256) : (V5 m c (Proc.devRef .tc main_v13) : (⟨S16x256, .f32⟩ : BufTy).Contents (Elt Ideal)) (ix2 o i)
    = ind (i.val / 16 = o.val) := by
  have e3 : (V3 m c (Proc.devRef .tc main_v13) : (⟨S16x256, .f32⟩ : BufTy).Contents (Elt Ideal)) = transpose S16x256 [1, 0]
      (V3 m c (Proc.devRef .tc main_v12) : (⟨S256x16, .f32⟩ : BufTy).Contents (Elt Ideal)) transposes_S256x16_S16x256_1_0 := by
    show StableHlo.after hostOps0_2 (V2 m c) (Proc.devRef .tc main_v13) = transpose S16x256 [1, 0]
      (StableHlo.after hostOps0_2 (V2 m c) (Proc.devRef .tc main_v12) : (⟨S256x16, .f32⟩ : BufTy).Contents (Elt Ideal)) _
    after_results_simp
  have e12 := v12_at m c i o
  rw [V5_of m c main_v12 (by decide +kernel), V4_of m c main_v12 (by decide +kernel)] at e12
  rw [V5_of m c main_v13 (by decide +kernel), V4_of m c main_v13 (by decide +kernel), e3, ← e12]
  pointwise

/-- A word's remainder by another, its sign the divisor's. -/
def floorMod (x y : BitVec 32) : BitVec 32 :=
  let z : BitVec 32 := Scalar.select (IntOp.cmpi .eq y 0#32) 1#32 y
  Scalar.select (IntOp.andi (IntOp.cmpi .ne (IntOp.cmpi .slt (IntOp.remsi .host x z) 0#32) (IntOp.cmpi .slt z 0#32)) (IntOp.cmpi .ne (IntOp.remsi .host x z) 0#32))
    (IntOp.addi (IntOp.remsi .host x z) z) (IntOp.remsi .host x z)

/-- What the remainder leaves. -/
theorem v16_at (W : Valuation τ sig (Elt Ideal)) (hc : (W (Proc.devRef .tc main_c_0) : (⟨S_, .i32⟩ : BufTy).Contents (Elt Ideal)) = constantI S_ 32 16#32)
    (j : S144x16.Idx) :
    (StableHlo.after hostOps0_3 W (Proc.devRef .tc main_v16) : (⟨S144x16, .i32⟩ : BufTy).Contents (Elt Ideal)) j
      = floorMod ((W (Proc.devRef .tc main_v14) : (⟨S144x16, .i32⟩ : BufTy).Contents (Elt Ideal)) j) 16#32 := by
  after_results_simp
  rw [hc]
  simp only [StableHlo.TRef.ofBuf_toBuf]
  show Scalar.select _ _ _ = _
  unfold floorMod
  congr 1

/-- Which rows belong to which capsule, as words. -/
theorem row_word : ∀ (r : Fin 144) (k : Fin 16), IntOp.cmpi .eq (floorMod (BitVec.ofNat 32 r.val) 16#32) (BitVec.ofNat 32 k.val)
    = if r.val % 16 = k.val then 1#1 else 0#1 := by
  decide +kernel

/-- The matrix of rows by input capsule: one where the row is the capsule's. -/
theorem v18_at (r : Fin 144) (k : Fin 16) : (V5 m c (Proc.devRef .tc main_v18) : (⟨S144x16, .f32⟩ : BufTy).Contents (Elt Ideal)) (ix2 r k)
    = ind (r.val % 16 = k.val) := by
  have e14 : (V3 m c (Proc.devRef .tc main_v14) : (⟨S144x16, .i32⟩ : BufTy).Contents (Elt Ideal)) = iotaInDim S144x16 32 0 := by
    show StableHlo.after hostOps0_2 (V2 m c) (Proc.devRef .tc main_v14) = _
    after_results_simp
  have e15 : (V3 m c (Proc.devRef .tc main_v15) : (⟨S144x16, .i32⟩ : BufTy).Contents (Elt Ideal)) = iotaInDim S144x16 32 1 := by
    show StableHlo.after hostOps0_2 (V2 m c) (Proc.devRef .tc main_v15) = _
    after_results_simp
  have ec : (V3 m c (Proc.devRef .tc main_c_0) : (⟨S_, .i32⟩ : BufTy).Contents (Elt Ideal)) = constantI S_ 32 16#32 := by
    show StableHlo.after hostOps0_2 (V2 m c) (Proc.devRef .tc main_c_0) = _
    after_results_simp
  have e4 : (V4 m c (Proc.devRef .tc main_v16) : (⟨S144x16, .i32⟩ : BufTy).Contents (Elt Ideal)) (ix2 r k) = floorMod (BitVec.ofNat 32 r.val) 16#32 := by
    show (StableHlo.after hostOps0_3 (V3 m c) (Proc.devRef .tc main_v16) : (⟨S144x16, .i32⟩ : BufTy).Contents (Elt Ideal)) (ix2 r k) = _
    rw [v16_at _ ec, e14]
    rfl
  have e4' : (V4 m c (Proc.devRef .tc main_v15) : (⟨S144x16, .i32⟩ : BufTy).Contents (Elt Ideal)) (ix2 r k) = BitVec.ofNat 32 k.val := by
    rw [V4_of m c main_v15 (by decide +kernel), e15]
    rfl
  have e5 : (V5 m c (Proc.devRef .tc main_v18) : (⟨S144x16, .f32⟩ : BufTy).Contents (Elt Ideal)) = uitofp (F := Ideal) .f32 (cmpi .eq
      (V4 m c (Proc.devRef .tc main_v16) : (⟨S144x16, .i32⟩ : BufTy).Contents (Elt Ideal)) (V4 m c (Proc.devRef .tc main_v15) : (⟨S144x16, .i32⟩ : BufTy).Contents (Elt Ideal))) := by
    show StableHlo.after hostOps0_4 (V4 m c) (Proc.devRef .tc main_v18) = _
    after_results_simp
  rw [e5]
  show FloatOps.uitofp (F := Ideal) .f32 (IntOp.cmpi .eq ((V4 m c (Proc.devRef .tc main_v16) : (⟨S144x16, .i32⟩ : BufTy).Contents (Elt Ideal)) (ix2 r k))
    ((V4 m c (Proc.devRef .tc main_v15) : (⟨S144x16, .i32⟩ : BufTy).Contents (Elt Ideal)) (ix2 r k))) = _
  rw [e4, e4', row_word, uitofp_ind]

/-- The same matrix, transposed. -/
theorem v19_at (k : Fin 16) (r : Fin 144) : (V5 m c (Proc.devRef .tc main_v19) : (⟨S16x144, .f32⟩ : BufTy).Contents (Elt Ideal)) (ix2 k r)
    = ind (r.val % 16 = k.val) := by
  have e5 : (V5 m c (Proc.devRef .tc main_v19) : (⟨S16x144, .f32⟩ : BufTy).Contents (Elt Ideal)) = transpose S16x144 [1, 0]
      (V5 m c (Proc.devRef .tc main_v18) : (⟨S144x16, .f32⟩ : BufTy).Contents (Elt Ideal)) transposes_S144x16_S16x144_1_0 := by
    show StableHlo.after hostOps0_4 (V4 m c) (Proc.devRef .tc main_v19) = transpose S16x144 [1, 0]
      (StableHlo.after hostOps0_4 (V4 m c) (Proc.devRef .tc main_v18) : (⟨S144x16, .f32⟩ : BufTy).Contents (Elt Ideal)) _
    after_results_simp
  rw [e5, ← v18_at m c r k]
  pointwise

end Cert.KernelIdeal.Value
-- ==== Proof.KernelIdealValue.lean ====
/-
What the kernel's two phases leave, element by element: phase 1 the first round's means, variances and logarithms of the activations, and
the greatest of the second round's scores; phase 2 the second round's poses and activations, which are the kernel's results.
-/
module

public import proofs.«01_k».proof.Proof.KernelIdealPayload
public import proofs.«01_k».proof.Proof.KernelIdealHost
public import proofs.«01_k».proof.Proof.KernelIdealRun
public import Idealize.ShloMosaic.Lib.Pipeline.ValueKit

@[expose] public section

set_option maxRecDepth 8192

noncomputable section

namespace Cert.KernelIdeal.Value

open Cert.KernelIdeal Cert.KernelIdeal.Gen Cert.Caps Cert.KernelIdeal.Em
open Cert.ReferenceIdeal.Value (ixF ixA ixB ixP ixO VV AA BB)
open Idealize.ShloMosaic Idealize.ShloMosaic.TcCoe

variable (m : (ℓ : Loc nD τ sig) → Buf (Elt Ideal) ℓ) (c : Dev nD)

/-! ## A column's output capsule and entry -/

/-- The output capsule of a column. -/
def hi (k : Fin 256) : Fin 16 := ⟨k.val / 16, by omega⟩
/-- The entry of a column. -/
def lo (k : Fin 256) : Fin 16 := ⟨k.val % 16, by omega⟩

/-- A column is its output capsule's at its entry. -/
theorem col_hi_lo (k : Fin 256) : col (hi k) (lo k) = k := Fin.ext (by simp only [col, hi, lo]; omega)
/-- The output capsule of a column made of a capsule and an entry. -/
theorem hi_col (o a : Fin 16) : hi (col o a) = o := Fin.ext (by simp only [col, hi]; omega)
/-- The entry of a column made of a capsule and an entry. -/
theorem lo_col (o a : Fin 16) : lo (col o a) = a := Fin.ext (by simp only [col, lo]; omega)

/-! ## The operands as the phases find them -/

/-- The votes as the phases find them. -/
theorem in_votes (n : Fin 576) (r : Fin 144) (o a : Fin 16) :
    (V5 m c (Proc.devRef .tc main_v1) : (⟨S576x144x16x16, .f32⟩ : BufTy).Contents (Elt Ideal)) (ix4 n r a o) = VV (votesOf m c) n r o a := by
  rw [V5_of m c main_v1 (by decide +kernel), V4_of m c main_v1 (by decide +kernel), V3_of m c main_v1 (by decide +kernel),
    V2_of m c main_v1 (by decide +kernel), v1_at]
  rfl

/-- The activations as the phases find them. -/
theorem in_acts (n : Fin 576) (r : Fin 144) :
    (V5 m c (Proc.devRef .tc main_v2) : (⟨S576x144, .f32⟩ : BufTy).Contents (Elt Ideal)) (ix2 n r) = AA (actsOf m c) n r := by
  rw [V5_of m c main_v2 (by decide +kernel), V4_of m c main_v2 (by decide +kernel), V3_of m c main_v2 (by decide +kernel),
    V2_of m c main_v2 (by decide +kernel), v2_at]
  rfl

/-- The first bias as the phases find it. -/
theorem in_ba (o : Fin 16) :
    (V5 m c (Proc.devRef .tc main_v3) : (⟨S1x16, .f32⟩ : BufTy).Contents (Elt Ideal)) (ix2 0 o) = BB (baOf m c) o := by
  rw [V5_of m c main_v3 (by decide +kernel), V4_of m c main_v3 (by decide +kernel), V3_of m c main_v3 (by decide +kernel),
    V2_of m c main_v3 (by decide +kernel), v3_at]
  rfl

/-- The second bias as the phases find it. -/
theorem in_bu (o a : Fin 16) :
    (V5 m c (Proc.devRef .tc main_v7) : (⟨S1x256, .f32⟩ : BufTy).Contents (Elt Ideal)) (ix2 0 (col o a)) = BB (buOf m c) o := by
  rw [V5_of m c main_v7 (by decide +kernel), V4_of m c main_v7 (by decide +kernel), V3_of m c main_v7 (by decide +kernel),
    V2_of m c main_v7 (by decide +kernel), v7_at]
  rfl

/-! ## Phase 1's blocks -/

/-- The position that row `n` of a block at point `t` of phase 1 is. -/
def pos0 (t : Fin cfg0.N) (n : Fin 8) : Fin 576 := ⟨t.val * 8 + n.val, by have : t.val < 72 := N_0 ▸ t.isLt; omega⟩

/-- Where the blocks of phase 1 lie in their arrays. -/
theorem index0 : ∀ t : Fin grid0.N, win0_0.index t 0 = t.val ∧ win0_0.index t 1 = 0 ∧ win0_0.index t 2 = 0 ∧ win0_0.index t 3 = 0
    ∧ win0_1.index t 0 = t.val ∧ win0_1.index t 1 = 0 ∧ win0_2.index t 0 = 0 ∧ win0_2.index t 1 = 0 ∧ win0_3.index t 0 = 0
    ∧ win0_3.index t 1 = 0 ∧ win0_4.index t 0 = 0 ∧ win0_4.index t 1 = 0 ∧ win0_5.index t 0 = t.val ∧ win0_5.index t 1 = 0
    ∧ win0_5.index t 2 = 0 ∧ win0_6.index t 0 = t.val ∧ win0_6.index t 1 = 0 ∧ win0_7.index t 0 = t.val ∧ win0_7.index t 1 = 0
    ∧ win0_8.index t 0 = t.val ∧ win0_8.index t 1 = 0 := by decide +kernel

section Places
variable (t : Fin cfg0.N)

/-- Where an element of window 0's block lies in its array. -/
theorem emb0_0 (n : Fin 8) (r : Fin 144) (a o : Fin 16) : ((cfg0.win 0).blk t).view.emb (ix4 n r a o) = ix4 (pos0 t n) r a o := by
  blk_ext [pos0, index0 t]
/-- Where an element of window 1's block lies in its array. -/
theorem emb0_1 (n : Fin 8) (r : Fin 144) : ((cfg0.win 1).blk t).view.emb (ix2 n r) = ix2 (pos0 t n) r := by blk_ext [pos0, index0 t]
/-- Where an element of window 2's block lies in its array. -/
theorem emb0_2 (k : Fin 256) : ((cfg0.win 2).blk t).view.emb (ix2 (0 : Fin 1) k) = ix2 (0 : Fin 1) k := by blk_ext [index0 t]
/-- Where an element of window 3's block lies in its array. -/
theorem emb0_3 (k : Fin 16) : ((cfg0.win 3).blk t).view.emb (ix2 (0 : Fin 1) k) = ix2 (0 : Fin 1) k := by blk_ext [index0 t]
/-- Where an element of window 4's block lies in its array. -/
theorem emb0_4 (k : Fin 256) (o : Fin 16) : ((cfg0.win 4).blk t).view.emb (ix2 k o) = ix2 k o := by blk_ext [index0 t]
/-- Where an element of window 5's block lies in its array. -/
theorem emb0_5 (n : Fin 8) (r : Fin 144) (k : Fin 256) : ((cfg0.win 5).blk t).view.emb (ix3 n r k) = ix3 (pos0 t n) r k := by
  blk_ext [pos0, index0 t]
/-- Where an element of window 6's block lies in its array. -/
theorem emb0_6 (n : Fin 8) (k : Fin 256) : ((cfg0.win 6).blk t).view.emb (ix2 n k) = ix2 (pos0 t n) k := by blk_ext [pos0, index0 t]
/-- Where an element of window 7's block lies in its array. -/
theorem emb0_7 (n : Fin 8) (k : Fin 256) : ((cfg0.win 7).blk t).view.emb (ix2 n k) = ix2 (pos0 t n) k := by blk_ext [pos0, index0 t]
/-- Where an element of window 8's block lies in its array. -/
theorem emb0_8 (n : Fin 8) (o : Fin 16) : ((cfg0.win 8).blk t).view.emb (ix2 n o) = ix2 (pos0 t n) o := by blk_ext [pos0, index0 t]

end Places

section Blocks
variable (t : Fin cfg0.N)

/-- A block's votes. -/
theorem blk0_0 (n : Fin 8) (r : Fin 144) (o a : Fin 16) : blk0 (In0 m) c 0 t (ix4 n r a o) = VV (votesOf m c) (pos0 t n) r o a := by
  have e : blk0 (In0 m) c 0 t (ix4 n r a o)
    = (V5 m c (Proc.devRef .tc main_v1) : (⟨S576x144x16x16, .f32⟩ : BufTy).Contents (Elt Ideal)) (ix4 (pos0 t n) r a o) :=
    congrArg (V5 m c (Proc.devRef .tc main_v1)) (emb0_0 t n r a o)
  rw [e, in_votes]
/-- A block's activations. -/
theorem blk0_1 (n : Fin 8) (r : Fin 144) : blk0 (In0 m) c 1 t (ix2 n r) = AA (actsOf m c) (pos0 t n) r := by
  have e : blk0 (In0 m) c 1 t (ix2 n r) = (V5 m c (Proc.devRef .tc main_v2) : (⟨S576x144, .f32⟩ : BufTy).Contents (Elt Ideal)) (ix2 (pos0 t n) r) :=
    congrArg (V5 m c (Proc.devRef .tc main_v2)) (emb0_1 t n r)
  rw [e, in_acts]
/-- The second bias (`beta_u`), as each point reads it. -/
theorem blk0_2 (o a : Fin 16) : blk0 (In0 m) c 2 t (ix2 (0 : Fin 1) (col o a)) = BB (buOf m c) o := by
  have e : blk0 (In0 m) c 2 t (ix2 (0 : Fin 1) (col o a)) = (V5 m c (Proc.devRef .tc main_v7) : (⟨S1x256, .f32⟩ : BufTy).Contents (Elt Ideal)) (ix2 (0 : Fin 1) (col o a)) :=
    congrArg (V5 m c (Proc.devRef .tc main_v7)) (emb0_2 t (col o a))
  rw [e, in_bu]
/-- The first bias (`beta_a`), as each point reads it. -/
theorem blk0_3 (o : Fin 16) : blk0 (In0 m) c 3 t (ix2 (0 : Fin 1) o) = BB (baOf m c) o := by
  have e : blk0 (In0 m) c 3 t (ix2 (0 : Fin 1) o) = (V5 m c (Proc.devRef .tc main_v3) : (⟨S1x16, .f32⟩ : BufTy).Contents (Elt Ideal)) (ix2 (0 : Fin 1) o) :=
    congrArg (V5 m c (Proc.devRef .tc main_v3)) (emb0_3 t o)
  rw [e, in_ba]
/-- The matrix of columns, as each point reads it. -/
theorem blk0_4 (k : Fin 256) (o : Fin 16) : blk0 (In0 m) c 4 t (ix2 k o) = ind (k.val / 16 = o.val) := by
  have e : blk0 (In0 m) c 4 t (ix2 k o) = (V5 m c (Proc.devRef .tc main_v12) : (⟨S256x16, .f32⟩ : BufTy).Contents (Elt Ideal)) (ix2 k o) :=
    congrArg (V5 m c (Proc.devRef .tc main_v12)) (emb0_4 t k o)
  rw [e, v12_at]

/-- The blocks phase 1 reads at a point are the arguments at the point's positions. -/
theorem holds1 : Holds1 (VV (votesOf m c)) (AA (actsOf m c)) (BB (baOf m c)) (BB (buOf m c)) (pos0 t)
    (blk0 (In0 m) c 0 t) (blk0 (In0 m) c 1 t) (blk0 (In0 m) c 2 t) (blk0 (In0 m) c 3 t) (blk0 (In0 m) c 4 t) :=
  ⟨blk0_0 m c t, blk0_1 m c t, blk0_2 m c t, blk0_3 m c t, blk0_4 m c t⟩

end Blocks

/-! ## Phase 1's arrays -/

/-- The votes by position, row and column. -/
def gV : Vec Ideal S576x144x256 .f32 := fun i => VV (votesOf m c) (i 0) (i 1) (hi (i 2)) (lo (i 2))
/-- The first round's means by position and column. -/
def gM : Vec Ideal S576x256 .f32 := fun i => mu1 (VV (votesOf m c)) (AA (actsOf m c)) (i 0) (hi (i 1)) (lo (i 1))
/-- The first round's variances by position and column. -/
def gS : Vec Ideal S576x256 .f32 := fun i => sg1 varK (VV (votesOf m c)) (AA (actsOf m c)) (i 0) (hi (i 1)) (lo (i 1))
/-- The first round's logarithms by position and output capsule. -/
def gL : Vec Ideal S576x16 .f32 := fun i =>
  la1 varK (VV (votesOf m c)) (AA (actsOf m c)) (BB (baOf m c)) (BB (buOf m c)) (i 0) (i 1)
/-- The greatest score. -/
def gT : Vec Ideal S1x1 .f32 := fun _ => top varK scoreK (VV (votesOf m c)) (AA (actsOf m c)) (BB (baOf m c)) (BB (buOf m c))

/-- The votes phase 1 leaves. -/
theorem arr0_5 : (dat0 (In0 m) c).arrAt 5 cfg0.N = gV m c := by
  refine (dat0 (In0 m) c).arrAt_eq_of_covers 5 _ (by decide +kernel) fun t _ y => ?_
  obtain ⟨n, r, k, rfl⟩ : ∃ (n : Fin 8) (r : Fin 144) (k : Fin 256), y = ix3 n r k := ⟨y 0, y 1, y 2, eq_ix3 y⟩
  rw [emb0_5, after0_5]
  have := v_at (holds1 m c t) n r (hi k) (lo k)
  rw [col_hi_lo] at this
  exact this

/-- The means phase 1 leaves. -/
theorem arr0_6 : (dat0 (In0 m) c).arrAt 6 cfg0.N = gM m c := by
  refine (dat0 (In0 m) c).arrAt_eq_of_covers 6 _ (by decide +kernel) fun t _ y => ?_
  obtain ⟨n, k, rfl⟩ : ∃ (n : Fin 8) (k : Fin 256), y = ix2 n k := ⟨y 0, y 1, eq_ix2 y⟩
  rw [emb0_6, after0_6]
  have := mu0_at (holds1 m c t) n (hi k) (lo k)
  rw [col_hi_lo] at this
  exact this

/-- The variances phase 1 leaves. -/
theorem arr0_7 : (dat0 (In0 m) c).arrAt 7 cfg0.N = gS m c := by
  refine (dat0 (In0 m) c).arrAt_eq_of_covers 7 _ (by decide +kernel) fun t _ y => ?_
  obtain ⟨n, k, rfl⟩ : ∃ (n : Fin 8) (k : Fin 256), y = ix2 n k := ⟨y 0, y 1, eq_ix2 y⟩
  rw [emb0_7, after0_7]
  have := sg0_at (holds1 m c t) n (hi k) (lo k)
  rw [col_hi_lo] at this
  exact this

/-- The logarithms phase 1 leaves. -/
theorem arr0_8 : (dat0 (In0 m) c).arrAt 8 cfg0.N = gL m c := by
  refine (dat0 (In0 m) c).arrAt_eq_of_covers 8 _ (by decide +kernel) fun t _ y => ?_
  obtain ⟨n, o, rfl⟩ : ∃ (n : Fin 8) (o : Fin 16), y = ix2 n o := ⟨y 0, y 1, eq_ix2 y⟩
  rw [emb0_8, after0_8]
  exact la0_at (holds1 m c t) n o

/-- One step of the running maximum. -/
theorem gm0_le (t : Fin cfg0.N) (g : Vec Ideal S1x1 .f32) (z : EReal) :
    gm0 (grid0.coords t) (blk0 (In0 m) c 0 t) (blk0 (In0 m) c 1 t) (blk0 (In0 m) c 2 t) (blk0 (In0 m) c 3 t) (blk0 (In0 m) c 4 t) g (ix2 0 0) ≤ z
      ↔ (t.val ≠ 0 → g (ix2 0 0) ≤ z) ∧ ∀ n r o,
        sc varK scoreK (VV (votesOf m c)) (AA (actsOf m c)) (BB (baOf m c)) (BB (buOf m c)) (pos0 t n) r o ≤ z := by
  rw [gm0_at (holds1 m c t) (grid0.coords t) g, coord0, max_le_iff, iSup_le_iff]
  refine and_congr ?_ ⟨fun h n r o => h (n, r, o), fun h x => h x.1 x.2.1 x.2.2⟩
  by_cases h : t.val = 0 <;> simp [h]

/-- The running maximum after point `k` is the greatest of the scores at the positions so far. -/
theorem run0_le (z : EReal) : ∀ k, k < cfg0.N → (run0 (In0 m) c k (ix2 0 0) ≤ z ↔ ∀ t : Fin cfg0.N, t.val ≤ k → ∀ n r o,
    sc varK scoreK (VV (votesOf m c)) (AA (actsOf m c)) (BB (baOf m c)) (BB (buOf m c)) (pos0 t n) r o ≤ z)
  | 0, h => by
    rw [run0, dif_pos h]
    refine (gm0_le m c ⟨0, h⟩ _ z).trans ⟨fun H t ht => ?_, fun H => ⟨fun e => absurd rfl e, H ⟨0, h⟩ le_rfl⟩⟩
    obtain rfl : t = ⟨0, h⟩ := Fin.ext (by simp only; omega)
    exact H.2
  | k + 1, h => by
    rw [run0, dif_pos h]
    refine (gm0_le m c ⟨k + 1, h⟩ _ z).trans ?_
    rw [run0_le z k (by omega)]
    refine ⟨fun H t ht => ?_, fun H => ⟨fun _ t ht => H t (by omega), H ⟨k + 1, h⟩ le_rfl⟩⟩
    by_cases e : t.val ≤ k
    · exact H.1 (by simp) t e
    · obtain rfl : t = ⟨k + 1, h⟩ := Fin.ext (by simp only; omega)
      exact H.2

/-- The greatest score, which phase 1 leaves. -/
theorem arr0_9 : (dat0 (In0 m) c).arrAt 9 cfg0.N = gT m c := by
  refine (dat0 (In0 m) c).arrAt_eq_of_covers 9 _ (by decide +kernel) fun t hf y => ?_
  have ht : t.val < 72 := N_0 ▸ t.isLt
  have h71 : t.val = 71 := by have := (flush0_9 t).mp hf; omega
  obtain rfl : y = ix2 (0 : Fin 1) (0 : Fin 1) := by
    rw [eq_ix2 y]; congr 1 <;> exact Subsingleton.elim _ _
  rw [after0_9]
  show run0 (In0 m) c t.val (ix2 0 0) = top _ _ _ _ _ _
  refine eq_of_forall_ge_iff fun z => (run0_le m c z t.val t.isLt).trans ?_
  rw [top, iSup_le_iff]
  refine ⟨fun H x => ?_, fun H t _ n r o => H (pos0 t n, r, o)⟩
  have hx := x.1.isLt
  have hN : cfg0.N = 72 := N_0
  have e : pos0 ⟨x.1.val / 8, by omega⟩ ⟨x.1.val % 8, by omega⟩ = x.1 := Fin.ext (by simp only [pos0]; omega)
  rw [← e]
  exact H _ (by simp only; omega) _ _ _

end Cert.KernelIdeal.Value
-- ==== Proof.KernelIdealResult.lean ====
/-
The kernel's results, element by element: phase 2's blocks of positions hold the second round's poses and activations, and the last
reshapes lay them out.
-/
module

public import proofs.«01_k».proof.Proof.KernelIdealValue

@[expose] public section

set_option maxRecDepth 8192

noncomputable section

namespace Cert.KernelIdeal.Value

open Cert.KernelIdeal Cert.KernelIdeal.Gen Cert.Caps Cert.KernelIdeal.Em
open Cert.ReferenceIdeal.Value (ixF ixA ixB ixP ixO VV AA BB)
open Idealize.ShloMosaic Idealize.ShloMosaic.TcCoe

variable (m : (ℓ : Loc nD τ sig) → Buf (Elt Ideal) ℓ) (c : Dev nD)

/-! ## Phase 2's blocks -/

/-- The position that row `n` of a block at point `t` of phase 2 is. -/
def pos1 (t : Fin cfg1.N) (n : Fin 16) : Fin 576 := ⟨t.val * 16 + n.val, by have : t.val < 36 := N_1 ▸ t.isLt; omega⟩

/-- Where the blocks of phase 2 that move with the point lie in their arrays. -/
theorem index1 : ∀ t : Fin grid1.N, win1_0.index t 0 = t.val ∧ win1_0.index t 1 = 0 ∧ win1_0.index t 2 = 0
    ∧ win1_1.index t 0 = t.val ∧ win1_1.index t 1 = 0 ∧ win1_2.index t 0 = t.val ∧ win1_2.index t 1 = 0
    ∧ win1_3.index t 0 = t.val ∧ win1_3.index t 1 = 0 ∧ win1_4.index t 0 = t.val ∧ win1_4.index t 1 = 0
    ∧ win1_12.index t 0 = t.val ∧ win1_12.index t 1 = 0 ∧ win1_13.index t 0 = t.val ∧ win1_13.index t 1 = 0 := by decide +kernel

/-- Where the blocks of phase 2 that stay lie in their arrays. -/
theorem index1' : ∀ t : Fin grid1.N, win1_5.index t 0 = 0 ∧ win1_5.index t 1 = 0 ∧ win1_6.index t 0 = 0 ∧ win1_6.index t 1 = 0
    ∧ win1_7.index t 0 = 0 ∧ win1_7.index t 1 = 0 ∧ win1_8.index t 0 = 0 ∧ win1_8.index t 1 = 0 ∧ win1_9.index t 0 = 0
    ∧ win1_9.index t 1 = 0 ∧ win1_10.index t 0 = 0 ∧ win1_10.index t 1 = 0 ∧ win1_11.index t 0 = 0 ∧ win1_11.index t 1 = 0 := by decide +kernel

section Places
variable (t : Fin cfg1.N)

/-- Where an element of window 0's block lies in its array. -/
theorem emb1_0 (n : Fin 16) (r : Fin 144) (k : Fin 256) : ((cfg1.win 0).blk t).view.emb (ix3 n r k) = ix3 (pos1 t n) r k := by
  blk_ext [pos1, index1 t]
/-- Where an element of window 1's block lies in its array. -/
theorem emb1_1 (n : Fin 16) (r : Fin 144) : ((cfg1.win 1).blk t).view.emb (ix2 n r) = ix2 (pos1 t n) r := by blk_ext [pos1, index1 t]
/-- Where an element of window 2's block lies in its array. -/
theorem emb1_2 (n : Fin 16) (k : Fin 256) : ((cfg1.win 2).blk t).view.emb (ix2 n k) = ix2 (pos1 t n) k := by blk_ext [pos1, index1 t]
/-- Where an element of window 3's block lies in its array. -/
theorem emb1_3 (n : Fin 16) (k : Fin 256) : ((cfg1.win 3).blk t).view.emb (ix2 n k) = ix2 (pos1 t n) k := by blk_ext [pos1, index1 t]
/-- Where an element of window 4's block lies in its array. -/
theorem emb1_4 (n : Fin 16) (o : Fin 16) : ((cfg1.win 4).blk t).view.emb (ix2 n o) = ix2 (pos1 t n) o := by blk_ext [pos1, index1 t]
/-- Where an element of window 5's block lies in its array. -/
theorem emb1_5 : ((cfg1.win 5).blk t).view.emb (ix2 (0 : Fin 1) (0 : Fin 1)) = ix2 (0 : Fin 1) (0 : Fin 1) := by blk_ext [index1' t]
/-- Where an element of window 6's block lies in its array. -/
theorem emb1_6 (k : Fin 256) : ((cfg1.win 6).blk t).view.emb (ix2 (0 : Fin 1) k) = ix2 (0 : Fin 1) k := by blk_ext [index1' t]
/-- Where an element of window 7's block lies in its array. -/
theorem emb1_7 (o : Fin 16) : ((cfg1.win 7).blk t).view.emb (ix2 (0 : Fin 1) o) = ix2 (0 : Fin 1) o := by blk_ext [index1' t]
/-- Where an element of window 8's block lies in its array. -/
theorem emb1_8 (k : Fin 256) (o : Fin 16) : ((cfg1.win 8).blk t).view.emb (ix2 k o) = ix2 k o := by blk_ext [index1' t]
/-- Where an element of window 9's block lies in its array. -/
theorem emb1_9 (o : Fin 16) (k : Fin 256) : ((cfg1.win 9).blk t).view.emb (ix2 o k) = ix2 o k := by blk_ext [index1' t]
/-- Where an element of window 10's block lies in its array. -/
theorem emb1_10 (r : Fin 144) (k : Fin 16) : ((cfg1.win 10).blk t).view.emb (ix2 r k) = ix2 r k := by blk_ext [index1' t]
/-- Where an element of window 11's block lies in its array. -/
theorem emb1_11 (k : Fin 16) (r : Fin 144) : ((cfg1.win 11).blk t).view.emb (ix2 k r) = ix2 k r := by blk_ext [index1' t]
/-- Where an element of window 12's block lies in its array. -/
theorem emb1_12 (n : Fin 16) (k : Fin 256) : ((cfg1.win 12).blk t).view.emb (ix2 n k) = ix2 (pos1 t n) k := by blk_ext [pos1, index1 t]
/-- Where an element of window 13's block lies in its array. -/
theorem emb1_13 (n : Fin 16) (o : Fin 16) : ((cfg1.win 13).blk t).view.emb (ix2 n o) = ix2 (pos1 t n) o := by blk_ext [pos1, index1 t]

end Places

section Blocks
variable (t : Fin cfg1.N)

/-- Phase 2 finds phase 1's arrays as phase 1 leaves them. -/
theorem mid_votes : (X6 m c (Proc.devRef .tc main_v20_0) : (⟨S576x144x256, .f32⟩ : BufTy).Contents (Elt Ideal)) = gV m c :=
  (X6_arr m c 5).trans (arr0_5 m c)
/-- The means, as phase 2 finds them. -/
theorem mid_means : (X6 m c (Proc.devRef .tc main_v20_1) : (⟨S576x256, .f32⟩ : BufTy).Contents (Elt Ideal)) = gM m c :=
  (X6_arr m c 6).trans (arr0_6 m c)
/-- The variances, as phase 2 finds them. -/
theorem mid_vars : (X6 m c (Proc.devRef .tc main_v20_2) : (⟨S576x256, .f32⟩ : BufTy).Contents (Elt Ideal)) = gS m c :=
  (X6_arr m c 7).trans (arr0_7 m c)
/-- The logarithms, as phase 2 finds them. -/
theorem mid_logs : (X6 m c (Proc.devRef .tc main_v20_3) : (⟨S576x16, .f32⟩ : BufTy).Contents (Elt Ideal)) = gL m c :=
  (X6_arr m c 8).trans (arr0_8 m c)
/-- The greatest score, as phase 2 finds it. -/
theorem mid_top : (X6 m c (Proc.devRef .tc main_v20_4) : (⟨S1x1, .f32⟩ : BufTy).Contents (Elt Ideal)) = gT m c :=
  (X6_arr m c 9).trans (arr0_9 m c)

/-- A block's votes. -/
theorem blk1_0 (n : Fin 16) (r : Fin 144) (o a : Fin 16) :
    blk1 (In1 m) c 0 t (ix3 n r (col o a)) = VV (votesOf m c) (pos1 t n) r o a := by
  have e : blk1 (In1 m) c 0 t (ix3 n r (col o a))
    = (X6 m c (Proc.devRef .tc main_v20_0) : (⟨S576x144x256, .f32⟩ : BufTy).Contents (Elt Ideal)) (ix3 (pos1 t n) r (col o a)) :=
    congrArg (X6 m c (Proc.devRef .tc main_v20_0)) (emb1_0 t n r (col o a))
  rw [e, mid_votes]
  show VV _ (pos1 t n) r (hi (col o a)) (lo (col o a)) = _
  rw [hi_col, lo_col]
/-- A block's activations. -/
theorem blk1_1 (n : Fin 16) (r : Fin 144) : blk1 (In1 m) c 1 t (ix2 n r) = AA (actsOf m c) (pos1 t n) r := by
  have e : blk1 (In1 m) c 1 t (ix2 n r) = (X6 m c (Proc.devRef .tc main_v2) : (⟨S576x144, .f32⟩ : BufTy).Contents (Elt Ideal)) (ix2 (pos1 t n) r) :=
    congrArg (X6 m c (Proc.devRef .tc main_v2)) (emb1_1 t n r)
  rw [e, X6_of m c main_v2 (by decide +kernel), in_acts]
/-- A block's means. -/
theorem blk1_2 (n : Fin 16) (o a : Fin 16) :
    blk1 (In1 m) c 2 t (ix2 n (col o a)) = mu1 (VV (votesOf m c)) (AA (actsOf m c)) (pos1 t n) o a := by
  have e : blk1 (In1 m) c 2 t (ix2 n (col o a))
    = (X6 m c (Proc.devRef .tc main_v20_1) : (⟨S576x256, .f32⟩ : BufTy).Contents (Elt Ideal)) (ix2 (pos1 t n) (col o a)) :=
    congrArg (X6 m c (Proc.devRef .tc main_v20_1)) (emb1_2 t n (col o a))
  rw [e, mid_means]
  show mu1 _ _ (pos1 t n) (hi (col o a)) (lo (col o a)) = _
  rw [hi_col, lo_col]
/-- A block's variances. -/
theorem blk1_3 (n : Fin 16) (o a : Fin 16) :
    blk1 (In1 m) c 3 t (ix2 n (col o a)) = sg1 varK (VV (votesOf m c)) (AA (actsOf m c)) (pos1 t n) o a := by
  have e : blk1 (In1 m) c 3 t (ix2 n (col o a))
    = (X6 m c (Proc.devRef .tc main_v20_2) : (⟨S576x256, .f32⟩ : BufTy).Contents (Elt Ideal)) (ix2 (pos1 t n) (col o a)) :=
    congrArg (X6 m c (Proc.devRef .tc main_v20_2)) (emb1_3 t n (col o a))
  rw [e, mid_vars]
  show sg1 _ _ _ (pos1 t n) (hi (col o a)) (lo (col o a)) = _
  rw [hi_col, lo_col]
/-- A block's logarithms. -/
theorem blk1_4 (n : Fin 16) (o : Fin 16) :
    blk1 (In1 m) c 4 t (ix2 n o) = la1 varK (VV (votesOf m c)) (AA (actsOf m c)) (BB (baOf m c)) (BB (buOf m c)) (pos1 t n) o := by
  have e : blk1 (In1 m) c 4 t (ix2 n o)
    = (X6 m c (Proc.devRef .tc main_v20_3) : (⟨S576x16, .f32⟩ : BufTy).Contents (Elt Ideal)) (ix2 (pos1 t n) o) :=
    congrArg (X6 m c (Proc.devRef .tc main_v20_3)) (emb1_4 t n o)
  rw [e, mid_logs]
  rfl

/-- The greatest score, as each point reads it. -/
theorem blk1_5 : blk1 (In1 m) c 5 t (ix2 (0 : Fin 1) (0 : Fin 1))
    = top varK scoreK (VV (votesOf m c)) (AA (actsOf m c)) (BB (baOf m c)) (BB (buOf m c)) := by
  have e : blk1 (In1 m) c 5 t (ix2 (0 : Fin 1) (0 : Fin 1))
    = (X6 m c (Proc.devRef .tc main_v20_4) : (⟨S1x1, .f32⟩ : BufTy).Contents (Elt Ideal)) (ix2 (0 : Fin 1) (0 : Fin 1)) :=
    congrArg (X6 m c (Proc.devRef .tc main_v20_4)) (emb1_5 t)
  rw [e, mid_top]
  rfl
/-- The second bias (`beta_u`), as each point reads it. -/
theorem blk1_6 (o a : Fin 16) : blk1 (In1 m) c 6 t (ix2 (0 : Fin 1) (col o a)) = BB (buOf m c) o := by
  have e : blk1 (In1 m) c 6 t (ix2 (0 : Fin 1) (col o a))
    = (X6 m c (Proc.devRef .tc main_v7) : (⟨S1x256, .f32⟩ : BufTy).Contents (Elt Ideal)) (ix2 (0 : Fin 1) (col o a)) :=
    congrArg (X6 m c (Proc.devRef .tc main_v7)) (emb1_6 t (col o a))
  rw [e, X6_of m c main_v7 (by decide +kernel), in_bu]
/-- The first bias (`beta_a`), as each point reads it. -/
theorem blk1_7 (o : Fin 16) : blk1 (In1 m) c 7 t (ix2 (0 : Fin 1) o) = BB (baOf m c) o := by
  have e : blk1 (In1 m) c 7 t (ix2 (0 : Fin 1) o)
    = (X6 m c (Proc.devRef .tc main_v3) : (⟨S1x16, .f32⟩ : BufTy).Contents (Elt Ideal)) (ix2 (0 : Fin 1) o) :=
    congrArg (X6 m c (Proc.devRef .tc main_v3)) (emb1_7 t o)
  rw [e, X6_of m c main_v3 (by decide +kernel), in_ba]
/-- The matrix of columns, as each point reads it. -/
theorem blk1_8 (k : Fin 256) (o : Fin 16) : blk1 (In1 m) c 8 t (ix2 k o) = ind (k.val / 16 = o.val) := by
  have e : blk1 (In1 m) c 8 t (ix2 k o) = (X6 m c (Proc.devRef .tc main_v12) : (⟨S256x16, .f32⟩ : BufTy).Contents (Elt Ideal)) (ix2 k o) :=
    congrArg (X6 m c (Proc.devRef .tc main_v12)) (emb1_8 t k o)
  rw [e, X6_of m c main_v12 (by decide +kernel), v12_at]
/-- The same matrix transposed, as each point reads it. -/
theorem blk1_9 (o : Fin 16) (k : Fin 256) : blk1 (In1 m) c 9 t (ix2 o k) = ind (k.val / 16 = o.val) := by
  have e : blk1 (In1 m) c 9 t (ix2 o k) = (X6 m c (Proc.devRef .tc main_v13) : (⟨S16x256, .f32⟩ : BufTy).Contents (Elt Ideal)) (ix2 o k) :=
    congrArg (X6 m c (Proc.devRef .tc main_v13)) (emb1_9 t o k)
  rw [e, X6_of m c main_v13 (by decide +kernel), v13_at]
/-- The matrix of rows, as each point reads it. -/
theorem blk1_10 (r : Fin 144) (k : Fin 16) : blk1 (In1 m) c 10 t (ix2 r k) = ind (r.val % 16 = k.val) := by
  have e : blk1 (In1 m) c 10 t (ix2 r k) = (X6 m c (Proc.devRef .tc main_v18) : (⟨S144x16, .f32⟩ : BufTy).Contents (Elt Ideal)) (ix2 r k) :=
    congrArg (X6 m c (Proc.devRef .tc main_v18)) (emb1_10 t r k)
  rw [e, X6_of m c main_v18 (by decide +kernel), v18_at]
/-- The same matrix transposed, as each point reads it. -/
theorem blk1_11 (k : Fin 16) (r : Fin 144) : blk1 (In1 m) c 11 t (ix2 k r) = ind (r.val % 16 = k.val) := by
  have e : blk1 (In1 m) c 11 t (ix2 k r) = (X6 m c (Proc.devRef .tc main_v19) : (⟨S16x144, .f32⟩ : BufTy).Contents (Elt Ideal)) (ix2 k r) :=
    congrArg (X6 m c (Proc.devRef .tc main_v19)) (emb1_11 t k r)
  rw [e, X6_of m c main_v19 (by decide +kernel), v19_at]

/-- The blocks phase 2 reads at a point are the first round's values at the point's positions. -/
theorem holds2 : Holds2 (VV (votesOf m c)) (AA (actsOf m c)) (BB (baOf m c)) (BB (buOf m c)) (pos1 t)
    (blk1 (In1 m) c 0 t) (blk1 (In1 m) c 1 t) (blk1 (In1 m) c 2 t) (blk1 (In1 m) c 3 t) (blk1 (In1 m) c 4 t) (blk1 (In1 m) c 5 t)
    (blk1 (In1 m) c 6 t) (blk1 (In1 m) c 7 t) (blk1 (In1 m) c 8 t) (blk1 (In1 m) c 9 t) (blk1 (In1 m) c 10 t) (blk1 (In1 m) c 11 t) :=
  ⟨blk1_0 m c t, blk1_1 m c t, blk1_2 m c t, blk1_3 m c t, blk1_4 m c t, blk1_5 m c t, blk1_6 m c t, blk1_7 m c t, blk1_8 m c t,
    blk1_9 m c t, blk1_10 m c t, blk1_11 m c t⟩

end Blocks

/-! ## Phase 2's arrays -/

/-- The second round's poses by position and column. -/
def gP : Vec Ideal S576x256 .f32 := fun i =>
  mu2 varK scoreK (VV (votesOf m c)) (AA (actsOf m c)) (BB (baOf m c)) (BB (buOf m c)) (i 0) (hi (i 1)) (lo (i 1))
/-- The second round's activations by position and output capsule. -/
def gA : Vec Ideal S576x16 .f32 := fun i =>
  act2 varK scoreK (VV (votesOf m c)) (AA (actsOf m c)) (BB (baOf m c)) (BB (buOf m c)) (i 0) (i 1)

/-- The poses phase 2 leaves. -/
theorem arr1_12 : (dat1 (In1 m) c).arrAt 12 cfg1.N = gP m c := by
  refine (dat1 (In1 m) c).arrAt_eq_of_covers 12 _ (by decide +kernel) fun t _ y => ?_
  obtain ⟨n, k, rfl⟩ : ∃ (n : Fin 16) (k : Fin 256), y = ix2 n k := ⟨y 0, y 1, eq_ix2 y⟩
  rw [emb1_12, after1_12]
  have := pose1_at (holds2 m c t) n (hi k) (lo k)
  rw [col_hi_lo] at this
  exact this

/-- The activations phase 2 leaves. -/
theorem arr1_13 : (dat1 (In1 m) c).arrAt 13 cfg1.N = gA m c := by
  refine (dat1 (In1 m) c).arrAt_eq_of_covers 13 _ (by decide +kernel) fun t _ y => ?_
  obtain ⟨n, o, rfl⟩ : ∃ (n : Fin 16) (o : Fin 16), y = ix2 n o := ⟨y 0, y 1, eq_ix2 y⟩
  rw [emb1_13, after1_13]
  exact act1_at (holds2 m c t) n o

/-! ## The results -/

/-- The poses, laid out as the kernel returns them. -/
theorem x8_poses : (X8 m c (Proc.devRef .tc main_v22) : (⟨S4x12x12x16x4x4, .f32⟩ : BufTy).Contents (Elt Ideal))
    = shapeCast S4x12x12x16x4x4 (gP m c) shapeCasts_S576x256_S4x12x12x16x4x4 := by
  have e : (X7 m c (Proc.devRef .tc main_v21_0) : (⟨S576x256, .f32⟩ : BufTy).Contents (Elt Ideal)) = gP m c :=
    (X7_arr m c 12).trans (arr1_12 m c)
  rw [← e]
  after_results_simp
  rfl

/-- The activations, laid out as the kernel returns them. -/
theorem x8_acts : (X8 m c (Proc.devRef .tc main_v23) : (⟨S4x12x12x16x1x1, .f32⟩ : BufTy).Contents (Elt Ideal))
    = shapeCast S4x12x12x16x1x1 (gA m c) shapeCasts_S576x16_S4x12x12x16x1x1 := by
  have e : (X7 m c (Proc.devRef .tc main_v21_1) : (⟨S576x16, .f32⟩ : BufTy).Contents (Elt Ideal)) = gA m c :=
    (X7_arr m c 13).trans (arr1_13 m c)
  rw [← e]
  after_results_simp
  rfl

end Cert.KernelIdeal.Value
-- ==== Proof.Algebraic.lean ====
/-
Kernel against reference over extended reals: on finite votes and activations that are not negative, both programs end with the same
poses and the same activations.
-/
module

public import proofs.«01_k».proof.Defs
public import proofs.«01_k».proof.Proof.KernelIdealResult
public import proofs.«01_k».proof.Proof.Gen.KernelIdeal
public import proofs.«01_k».proof.Proof.Gen.ReferenceIdeal
public import proofs.«01_k».proof.Proof.ReferenceLine
public import proofs.«01_k».proof.Proof.ReferenceValue

@[expose] public section

set_option maxRecDepth 8192

noncomputable section

namespace Cert.Proof

open Cert.Caps
open Cert.ReferenceIdeal.Value (ixF ixA ixB ixP ixO VV AA BB)
open Idealize.ShloMosaic Idealize.ShloMosaic.TcCoe Idealize.SL.Sem

/-- The side conditions of the precondition's operations. -/
theorem preFacts : Cert.Pre_tame.Facts := ⟨by decide, by decide, by decide⟩

/-! ## What the precondition says of an element -/

/-- Two truth values' conjunction. -/
theorem and_one : ∀ x y : BitVec 1, x &&& y = 1#1 → x = 1#1 ∧ y = 1#1 := by decide

/-- A truth value that is one is true. -/
theorem ofBool_one (b : Prop) [Decidable b] : BitVec.ofBool (decide b) = 1#1 ↔ b := by
  by_cases h : b <;> simp [h]

/-- A magnitude below infinity is a real number's. -/
theorem real_of_abs (x : EReal) (h : max x (-x) < ⊤) : ∃ y : ℝ, x = y := by
  induction x with
  | bot => simp at h
  | coe y => exact ⟨y, rfl⟩
  | top => simp at h

/-- The precondition, element by element. -/
theorem pre_at [Cert.Pre_tame.Facts] (v : (⟨Cert.Pre_tame.S4x12x12x3x3x16x16x4x4, .f32⟩ : BufTy).Contents (Elt Ideal))
    (p : (⟨Cert.Pre_tame.S4x12x12x3x3x16x1x1x1, .f32⟩ : BufTy).Contents (Elt Ideal))
    (ba bu : (⟨Cert.Pre_tame.S1x1x1x1x1x1x16x1x1, .f32⟩ : BufTy).Contents (Elt Ideal))
    (n : Fin 576) (r : Fin 144) (o a : Fin 16)
    (h : Cert.Pre_tame.fn (F := Ideal) v p ba bu (ixF n r o a) = 1#1) :
    max (v (ixF n r o a)) (-v (ixF n r o a)) < ⊤ ∧ 0 ≤ p (ixA n r) := by
  have hi : Ideal.ofBits .f32 0x7F800000#32 = ⊤ := by simp [Ideal.ofBits, Ideal.ieee]
  have hz : Ideal.ofBits .f32 0x00000000#32 = 0 := by simp [Ideal.ofBits, Ideal.ieee]
  unfold Cert.Pre_tame.fn at h
  dsimp only at h
  obtain ⟨h0, h1⟩ := and_one _ _ h
  have e0 : Ideal.cmp .olt (max (v (ixF n r o a)) (-v (ixF n r o a))) (Ideal.ofBits .f32 0x7F800000#32) = 1#1 := h0
  have e1 : Ideal.cmp .oge (p (ixA n r)) (Ideal.ofBits .f32 0x00000000#32) = 1#1 := by
    rw [← h1]
    show _ = Ideal.cmp .oge (p _) _
    congr 2
    funext k; fin_cases k <;> rfl
  rw [hi] at e0
  rw [hz] at e1
  simp only [Ideal.cmp, ofBool_one] at e0 e1
  exact ⟨e0, e1⟩

/-- The precondition says that the votes are real and the activations not negative. -/
theorem tame_of_pre [Cert.Pre_tame.Facts] (m : (ℓ : Loc Cert.KernelIdeal.nD Cert.KernelIdeal.τ Cert.KernelIdeal.sig) → Buf (Elt Ideal) ℓ)
    (h : Cert.Pre_KernelIdeal_tame m) (c : Dev Cert.KernelIdeal.nD) :
    Tame (VV (Cert.KernelIdeal.Value.votesOf m c)) (AA (Cert.KernelIdeal.Value.actsOf m c)) := by
  have H := fun n r o a => pre_at (Cert.KernelIdeal.Value.votesOf m c) (Cert.KernelIdeal.Value.actsOf m c) (Cert.KernelIdeal.Value.baOf m c)
    (Cert.KernelIdeal.Value.buOf m c) n r o a (congrFun (h c) (ixF n r o a))
  exact ⟨fun n r o a => real_of_abs _ (H n r o a).1, fun n r => (H n r 0 0).2⟩

/-! ## The results agree -/

/-- The kernel's poses, laid out, are the reference's. -/
theorem poses_eq (G : Vec Ideal Cert.KernelIdeal.S576x256 .f32) (M : Vec Ideal Cert.ReferenceIdeal.S4x12x12x1x1x1x16x4x4 .f32)
    (h : ∀ n o a, G (ix2 n (Cert.KernelIdeal.Value.col o a)) = M (ixP n o a)) (i : Cert.KernelIdeal.S4x12x12x16x4x4.Idx) :
    shapeCast Cert.KernelIdeal.S4x12x12x16x4x4 G Cert.KernelIdeal.Gen.facts.shapeCasts_S576x256_S4x12x12x16x4x4 i
      = shapeCast Cert.ReferenceIdeal.S4x12x12x16x4x4 M Cert.ReferenceIdeal.Gen.facts.shapeCasts_S4x12x12x1x1x1x16x4x4_S4x12x12x16x4x4 i := by
  rw [eq_ix6 i]
  have hb : (i 0).val < 4 := (i 0).isLt
  have hx : (i 1).val < 12 := (i 1).isLt
  have hy : (i 2).val < 12 := (i 2).isLt
  have hp : (i 4).val < 4 := (i 4).isLt
  have hq : (i 5).val < 4 := (i 5).isLt
  generalize i 0 = b, i 1 = x, i 2 = y, i 3 = o, i 4 = p, i 5 = q at *
  pointwise
  have e := h ⟨b.val * 144 + x.val * 12 + y.val, by omega⟩ o ⟨p.val * 4 + q.val, by omega⟩
  have el : Cert.KernelIdeal.Value.col o ⟨p.val * 4 + q.val, by omega⟩ = ⟨o.val * 16 + p.val * 4 + q.val, by have : o.val < 16 := o.isLt; omega⟩ :=
    Fin.ext (by simp only [Cert.KernelIdeal.Value.col]; omega)
  rw [el] at e
  rw [e]
  refine congrArg M (funext fun k => Fin.ext ?_)
  fin_cases k <;> simp [ixP, ix9] <;> omega

/-- The kernel's activations, laid out, are the reference's. -/
theorem acts_eq (G : Vec Ideal Cert.KernelIdeal.S576x16 .f32) (P : Vec Ideal Cert.ReferenceIdeal.S4x12x12x1x1x1x16x1x1 .f32)
    (h : ∀ n o, G (ix2 n o) = P (ixO n o)) (i : Cert.KernelIdeal.S4x12x12x16x1x1.Idx) :
    shapeCast Cert.KernelIdeal.S4x12x12x16x1x1 G Cert.KernelIdeal.Gen.facts.shapeCasts_S576x16_S4x12x12x16x1x1 i
      = shapeCast Cert.ReferenceIdeal.S4x12x12x16x1x1 P Cert.ReferenceIdeal.Gen.facts.shapeCasts_S4x12x12x1x1x1x16x1x1_S4x12x12x16x1x1 i := by
  rw [eq_ix6 i]
  have hb : (i 0).val < 4 := (i 0).isLt
  have hx : (i 1).val < 12 := (i 1).isLt
  have hy : (i 2).val < 12 := (i 2).isLt
  generalize i 0 = b, i 1 = x, i 2 = y, i 3 = o, i 4 = p, i 5 = q at *
  pointwise
  rw [h ⟨b.val * 144 + x.val * 12 + y.val, by omega⟩ o]
  refine congrArg P (funext fun k => Fin.ext ?_)
  fin_cases k <;> simp [ixO, ix9] <;> omega

/-- The kernel's poses, at a position, an output capsule and an entry, are the reference's. -/
theorem poses_at (m : (ℓ : Loc Cert.KernelIdeal.nD Cert.KernelIdeal.τ Cert.KernelIdeal.sig) → Buf (Elt Ideal) ℓ) (c : Dev Cert.KernelIdeal.nD)
    (h : Tame (VV (Cert.KernelIdeal.Value.votesOf m c)) (AA (Cert.KernelIdeal.Value.actsOf m c))) (n : Fin 576) (o a : Fin 16) :
    Cert.KernelIdeal.Value.gP m c (ix2 n (Cert.KernelIdeal.Value.col o a))
      = Cert.ReferenceIdeal.Line.M2 (Cert.KernelIdeal.Value.votesOf m c) (Cert.KernelIdeal.Value.actsOf m c) (Cert.KernelIdeal.Value.baOf m c)
        (Cert.KernelIdeal.Value.buOf m c) (ixP n o a) := by
  rw [Cert.ReferenceIdeal.Value.M2_at, ← mu2_eq _ _ h]
  show mu2 _ _ _ _ _ _ n (Cert.KernelIdeal.Value.hi (Cert.KernelIdeal.Value.col o a)) (Cert.KernelIdeal.Value.lo (Cert.KernelIdeal.Value.col o a)) = _
  rw [Cert.KernelIdeal.Value.hi_col, Cert.KernelIdeal.Value.lo_col]

/-- The kernel's activations, at a position and an output capsule, are the reference's. -/
theorem acts_at (m : (ℓ : Loc Cert.KernelIdeal.nD Cert.KernelIdeal.τ Cert.KernelIdeal.sig) → Buf (Elt Ideal) ℓ) (c : Dev Cert.KernelIdeal.nD)
    (h : Tame (VV (Cert.KernelIdeal.Value.votesOf m c)) (AA (Cert.KernelIdeal.Value.actsOf m c))) (n : Fin 576) (o : Fin 16) :
    Cert.KernelIdeal.Value.gA m c (ix2 n o)
      = Cert.ReferenceIdeal.Line.P2 (Cert.KernelIdeal.Value.votesOf m c) (Cert.KernelIdeal.Value.actsOf m c) (Cert.KernelIdeal.Value.baOf m c)
        (Cert.KernelIdeal.Value.buOf m c) (ixO n o) := by
  rw [Cert.ReferenceIdeal.Value.P2_at, ← act2_eq _ _ h]
  rfl

/-- On every input the precondition admits, kernel and reference end with the same poses and the same activations. -/
theorem algebraic [hPre_tame : Cert.Pre_tame.Facts] : letI := Cert.KernelIdeal.Gen.facts; letI := Cert.ReferenceIdeal.Gen.facts;
    Cert.algebraic_KernelIdeal_ReferenceIdeal_pre_tame := by
  intro m g m' g' hpre hargs
  refine ⟨fun c => Cert.KernelIdeal.Em.X8 m c (Proc.devRef .tc Cert.KernelIdeal.main_v22),
    fun c => Cert.KernelIdeal.Em.X8 m c (Proc.devRef .tc Cert.KernelIdeal.main_v23),
    (θ_run Cert.KernelIdeal.defs _ _).mono (fun _ h => h.1) (Cert.KernelIdeal.Em.run m g),
    (θ_run Cert.ReferenceIdeal.defs _ _).mono (fun r h c => ?_) (Cert.ReferenceIdeal.Line.run m' g')⟩
  obtain ⟨h0, h1, hr⟩ := h.1 c
  obtain ⟨a0, a1, a2, a3⟩ := hargs c
  refine ⟨h0.trans ?_, h1.trans ?_, hr⟩
  · rw [a0, a1, a2, a3]
    refine Eq.trans ?_ (Cert.KernelIdeal.Value.x8_poses m c).symm
    exact funext fun i => (poses_eq _ _ (poses_at m c (tame_of_pre m hpre c)) i).symm
  · rw [a0, a1, a2, a3]
    refine Eq.trans ?_ (Cert.KernelIdeal.Value.x8_acts m c).symm
    exact funext fun i => (acts_eq _ _ (acts_at m c (tame_of_pre m hpre c)) i).symm

end Cert.Proof

end
-- ==== Proof.lean ====
/-
The certificate: the witnesses of the programs' stated facts, then one term per claim, in the order `Cert.Claim` lists them.
-/
module

public import proofs.«01_k».proof.Defs
public import proofs.«01_k».proof.Proof.KernelRun
public import proofs.«01_k».proof.Proof.KernelIdealRun
public import proofs.«01_k».proof.Proof.Gen.Kernel
public import proofs.«01_k».proof.Proof.Gen.KernelIdeal
public import proofs.«01_k».proof.Proof.Gen.ReferenceIdeal
public import proofs.«01_k».proof.Proof.ReferenceLine
public import proofs.«01_k».proof.Proof.Algebraic

@[expose] public section

noncomputable section

namespace Cert.Proof

open Idealize.ShloMosaic Idealize.SL.Sem

/-- The kernel at the floats runs and leaves its arguments and its counters as they were. -/
theorem kernel_frame : letI := Cert.Kernel.Gen.facts; Cert.quiescent_Kernel := fun m g _ => Cert.Kernel.Em.frame m g

/-- The kernel over extended reals runs and leaves its arguments and its counters as they were. -/
theorem kernelIdeal_frame : letI := Cert.KernelIdeal.Gen.facts; Cert.quiescent_KernelIdeal := fun m g _ => Cert.KernelIdeal.Em.frame m g

/-- The same on the inputs the precondition admits. -/
theorem kernelIdeal_frame_tame [hPre_tame : Cert.Pre_tame.Facts] : letI := Cert.KernelIdeal.Gen.facts;
    Cert.quiescent_KernelIdeal_pre_tame := fun m g _ => Cert.KernelIdeal.Em.frame m g

/-- The reference over extended reals runs and leaves its arguments and its counters as they were. -/
theorem reference_frame : letI := Cert.ReferenceIdeal.Gen.facts; Cert.quiescent_ReferenceIdeal := fun m g _ =>
  (θ_run Cert.ReferenceIdeal.defs _ _).mono (fun _ h => ⟨fun c => (h.1 c).2.2, h.2⟩) (Cert.ReferenceIdeal.Line.run m g)

/-- The same on the inputs the precondition admits. -/
theorem reference_frame_tame [hPre_tame : Cert.Pre_tame.Facts] : letI := Cert.ReferenceIdeal.Gen.facts;
    Cert.quiescent_ReferenceIdeal_pre_tame := fun m g _ =>
  (θ_run Cert.ReferenceIdeal.defs _ _).mono (fun _ h => ⟨fun c => (h.1 c).2.2, h.2⟩) (Cert.ReferenceIdeal.Line.run m g)

/-- Every claim of the certificate: the frames, that the kernel over extended reals is the kernel's own program, and that kernel and
    reference end with the same poses and activations. -/
theorem claim : Cert.Claim := ⟨Cert.Kernel.Gen.facts, Cert.KernelIdeal.Gen.facts, Cert.ReferenceIdeal.Gen.facts, preFacts,
  kernel_frame, kernelIdeal_frame, kernelIdeal_frame_tame (hPre_tame := preFacts), reference_frame,
  reference_frame_tame (hPre_tame := preFacts), trivial, algebraic (hPre_tame := preFacts)⟩

end Cert.Proof

end
